-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_positions [hPre_finite_positions : Cert.Pre_finite_positions.Facts] (m : (ℓ : Loc Cert.KernelIdeal.nD Cert.KernelIdeal.τ Cert.KernelIdeal.sig) → Buf (Elt Ideal) ℓ) : Prop :=
  ∀ c : Dev Cert.KernelIdeal.nD,
    (Cert.Pre_finite_positions.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_positions [hPre_finite_positions : Cert.Pre_finite_positions.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_positions.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_positions [hKernelIdeal : Cert.KernelIdeal.Facts] [hPre_finite_positions : Cert.Pre_finite_positions.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_positions m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_positions [hReferenceIdeal : Cert.ReferenceIdeal.Facts] [hPre_finite_positions : Cert.Pre_finite_positions.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_positions m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "inf" .f32 0x7F61B1E6#32 ⊤

def algebraic_KernelIdeal_ReferenceIdeal_pre_finite_positions [hKernelIdeal : Cert.KernelIdeal.Facts] [hReferenceIdeal : Cert.ReferenceIdeal.Facts] [hPre_finite_positions : Cert.Pre_finite_positions.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_positions m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_positions : Cert.Pre_finite_positions.Facts),
    quiescent_Kernel (hKernel := hKernel)
    ∧ quiescent_KernelIdeal (hKernelIdeal := hKernelIdeal)
    ∧ quiescent_KernelIdeal_pre_finite_positions (hKernelIdeal := hKernelIdeal) (hPre_finite_positions := hPre_finite_positions)
    ∧ quiescent_ReferenceIdeal (hReferenceIdeal := hReferenceIdeal)
    ∧ quiescent_ReferenceIdeal_pre_finite_positions (hReferenceIdeal := hReferenceIdeal) (hPre_finite_positions := hPre_finite_positions)
    ∧ preserves_Kernel_KernelIdeal
    ∧ algebraic_KernelIdeal_ReferenceIdeal_pre_finite_positions (hKernelIdeal := hKernelIdeal) (hReferenceIdeal := hReferenceIdeal) (hPre_finite_positions := hPre_finite_positions)
-- ==== Pre_finite_positions.lean ====
abbrev S8192x3 : Shape := ⟨2, ![8192, 3]⟩
abbrev S8192 : Shape := ⟨1, ![8192]⟩
abbrev S_ : Shape := ⟨0, ![]⟩

class Facts : Prop where
  bcast_S_S8192x3 : S_.BroadcastsInDim S8192x3 (![] : Fin 0 → Fin S8192x3.rank)

variable [Facts]

def fn {F : FTy → Type} [FloatOps F] (main_arg0 : FVec F S8192x3 .f32) (main_arg1 : FVec F S8192 .f32) (main_arg2 : FVec F S8192x3 .f32) : IVec S8192x3 1 :=
  let main_v0 : FVec F S8192x3 .f32 := Host.absf main_arg0
  let main_cst : FVec F S_ .f32 := constant S_ .f32 0x7F800000#32
  let main_v1 : FVec F S8192x3 .f32 := broadcastInDim S8192x3 ![] bcast_S_S8192x3 main_cst
  let main_v2 : IVec S8192x3 1 := cmpf .olt main_v0 main_v1
  main_v2
-- ==== Kernel.lean ====
abbrev S8192x3 : Shape := ⟨2, ![8192, 3]⟩
abbrev S8192 : Shape := ⟨1, ![8192]⟩
abbrev S3x8192 : Shape := ⟨2, ![3, 8192]⟩
abbrev S8192x1 : Shape := ⟨2, ![8192, 1]⟩
abbrev S1x8192 : Shape := ⟨2, ![1, 8192]⟩
abbrev S1x1 : Shape := ⟨2, ![1, 1]⟩
abbrev S256x3 : Shape := ⟨2, ![256, 3]⟩
abbrev S256x1 : Shape := ⟨2, ![256, 1]⟩
abbrev S1x1x8192 : Shape := ⟨3, ![1, 1, 8192]⟩
abbrev S1 : Shape := ⟨1, ![1]⟩
abbrev S1x1x1 : Shape := ⟨3, ![1, 1, 1]⟩
abbrev S1x3x8192 : Shape := ⟨3, ![1, 3, 8192]⟩
abbrev S256x8192 : Shape := ⟨2, ![256, 8192]⟩
abbrev S256 : Shape := ⟨1, ![256]⟩
abbrev S1x256x1 : Shape := ⟨3, ![1, 256, 1]⟩

abbrev nBuf : Space → Nat
  | .hbm => 8
  | .vmem => 8
  | .smem => 0
  | _ => 0

abbrev bufTy : (tb : Table) → Fin (tcTables nBuf tb) → BufTy
  | .hbm, ⟨0, _⟩ => ⟨S8192x3, .f32⟩
  | .hbm, ⟨1, _⟩ => ⟨S8192, .f32⟩
  | .hbm, ⟨2, _⟩ => ⟨S8192x3, .f32⟩
  | .hbm, ⟨3, _⟩ => ⟨S3x8192, .f32⟩
  | .hbm, ⟨4, _⟩ => ⟨S8192x1, .f32⟩
  | .hbm, ⟨5, _⟩ => ⟨S1x8192, .f32⟩
  | .hbm, ⟨6, _⟩ => ⟨S3x8192, .f32⟩
  | .hbm, ⟨7, _⟩ => ⟨S1x1, .f32⟩
  | .local _ .vmem, ⟨0, _⟩ => ⟨S256x3, .f32⟩
  | .local _ .vmem, ⟨1, _⟩ => ⟨S256x3, .f32⟩
  | .local _ .vmem, ⟨2, _⟩ => ⟨S3x8192, .f32⟩
  | .local _ .vmem, ⟨3, _⟩ => ⟨S256x1, .f32⟩
  | .local _ .vmem, ⟨4, _⟩ => ⟨S256x1, .f32⟩
  | .local _ .vmem, ⟨5, _⟩ => ⟨S1x8192, .f32⟩
  | .local _ .vmem, ⟨6, _⟩ => ⟨S3x8192, .f32⟩
  | .local _ .vmem, ⟨7, _⟩ => ⟨S1x1, .f32⟩
  | _, _ => ⟨S8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== KernelIdeal.lean ====
variable {F : FTy → Type} [FloatOps F] [Named F]
def κ : String → Option EReal := fun
  | "inf" => some ⊤
  | _ => none
-- ==== ReferenceIdeal.lean ====
abbrev S8192x3 : Shape := ⟨2, ![8192, 3]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S8192x8192 : Shape := ⟨2, ![8192, 8192]⟩
abbrev S3x8192 : Shape := ⟨2, ![3, 8192]⟩
abbrev S8192x11 : Shape := ⟨2, ![8192, 11]⟩
abbrev S8192x10 : Shape := ⟨2, ![8192, 10]⟩
abbrev S8192x10x1 : Shape := ⟨3, ![8192, 10, 1]⟩
abbrev S1x1 : Shape := ⟨2, ![1, 1]⟩

abbrev nBuf : Space → Nat
  | .hbm => 71
  | .vmem => 0
  | .smem => 0
  | _ => 0

abbrev bufTy : (tb : Table) → Fin (tcTables nBuf tb) → BufTy
  | .hbm, ⟨0, _⟩ => ⟨S8192x3, .f32⟩
  | .hbm, ⟨1, _⟩ => ⟨S8192, .f32⟩
  | .hbm, ⟨2, _⟩ => ⟨S8192x3, .f32⟩
  | .hbm, ⟨3, _⟩ => ⟨S8192, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S8192x3, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S1x8192, .f32⟩
  | .hbm, ⟨13, _⟩ => ⟨S8192x8192, .f32⟩
  | .hbm, ⟨14, _⟩ => ⟨S8192x8192, .f32⟩
  | .hbm, ⟨15, _⟩ => ⟨S8192x8192, .f32⟩
  | .hbm, ⟨16, _⟩ => ⟨S3x8192, .f32⟩
  | .hbm, ⟨17, _⟩ => ⟨S8192x8192, .f32⟩
  | .hbm, ⟨18, _⟩ => ⟨S_, .f32⟩
  | .hbm, ⟨19, _⟩ => ⟨S8192x8192, .f32⟩
  | .hbm, ⟨20, _⟩ => ⟨S8192x8192, .f32⟩
  | .hbm, ⟨21, _⟩ => ⟨S8192x8192, .f32⟩
  | .hbm, ⟨22, _⟩ => ⟨S_, .f32⟩
  | .hbm, ⟨23, _⟩ => ⟨S8192x8192, .f32⟩
  | .hbm, ⟨24, _⟩ => ⟨S8192x8192, .f32⟩
  | .hbm, ⟨25, _⟩ => ⟨S8192x8192, .f32⟩
  | .hbm, ⟨26, _⟩ => ⟨S8192x8192, .f32⟩
  | .hbm, ⟨27, _⟩ => ⟨S8192x11, .f32⟩
  | .hbm, ⟨28, _⟩ => ⟨S8192x11, .i32⟩
  | .hbm, ⟨29, _⟩ => ⟨S8192x10, .i32⟩
  | .hbm, ⟨30, _⟩ => ⟨S_, .i32⟩
  | .hbm, ⟨31, _⟩ => ⟨S8192x10, .i32⟩
  | .hbm, ⟨32, _⟩ => ⟨S8192x10, .i1⟩
  | .hbm, ⟨33, _⟩ => ⟨S_, .i32⟩
  | .hbm, ⟨34, _⟩ => ⟨S8192x10, .i32⟩
  | .hbm, ⟨35, _⟩ => ⟨S8192x10, .i32⟩
  | .hbm, ⟨36, _⟩ => ⟨S8192x10, .i32⟩
  | .hbm, ⟨37, _⟩ => ⟨S8192x10x1, .i32⟩
  | .hbm, ⟨38, _⟩ => ⟨S8192x10, .f32⟩
  | .hbm, ⟨39, _⟩ => ⟨S8192x1, .f32⟩
  | .hbm, ⟨40, _⟩ => ⟨S8192x10, .f32⟩
  | .hbm, ⟨41, _⟩ => ⟨S8192x10, .f32⟩
  | .hbm, ⟨42, _⟩ => ⟨S8192x10, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S8192x3, .f32⟩
  | .hbm, ⟨49, _⟩ => ⟨S8192x3, .f32⟩
  | .hbm, ⟨50, _⟩ => ⟨S8192x3, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S8192, .f32⟩
  | .hbm, ⟨57, _⟩ => ⟨S8192, .f32⟩
  | .hbm, ⟨58, _⟩ => ⟨S8192, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S1x1, .f32⟩
  | _, _ => ⟨S8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_values : Ref sig .tc := ⟨.hbm, 27, rfl⟩
abbrev main_indices : Ref sig .tc := ⟨.hbm, 28, rfl⟩
abbrev main_v19 : Ref sig .tc := ⟨.hbm, 29, rfl⟩
abbrev main_c : Ref sig .tc := ⟨.hbm, 30, rfl⟩
abbrev main_v20 : Ref sig .tc := ⟨.hbm, 31, rfl⟩
abbrev main_v21 : Ref sig .tc := ⟨.hbm, 32, rfl⟩
abbrev main_c_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_cst_7 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_8 : Ref sig .tc := ⟨.hbm, 51, rfl⟩
abbrev main_v36 : Ref sig .tc := ⟨.hbm, 52, rfl⟩
abbrev main_cst_9 : Ref sig .tc := ⟨.hbm, 53, rfl⟩
abbrev main_v37 : Ref sig .tc := ⟨.hbm, 54, rfl⟩
abbrev main_cst_10 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_11 : Ref sig .tc := ⟨.hbm, 59, rfl⟩
abbrev main_v41 : Ref sig .tc := ⟨.hbm, 60, rfl⟩
abbrev main_cst_12 : Ref sig .tc := ⟨.hbm, 61, rfl⟩
abbrev main_v42 : Ref sig .tc := ⟨.hbm, 62, rfl⟩
abbrev main_cst_13 : Ref sig .tc := ⟨.hbm, 63, rfl⟩
abbrev main_v43 : Ref sig .tc := ⟨.hbm, 64, rfl⟩
abbrev main_cst_14 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩

abbrev nD : Nat := 1
abbrev τ : Topo := Topo.v7x

variable {F : FTy → Type} [FloatOps F]
-- ==== Proof.Select.lean ====
/-
  Repeated selection of the smallest element, as plain mathematics over the extended reals.

  The kernel finds the nearest rows of one row by rounds: take the least distance, of the columns that attain it the
  one with the least number, then overwrite that column by +∞ and go on. The reference sorts the whole row by a stable
  sort and keeps the first entries. This module shows that both walk through the columns in the same order: by the
  distance, and at equal distances by the column number.
-/
module

public import Idealize.ShloMosaic.Lib.SortFacts
public import Idealize.ShloMosaic.Lib.SortPrefix
public import Idealize.ShloMosaic.PureOps.Ideal
public import Mathlib.Data.EReal.Basic

@[expose] public section

noncomputable section

namespace Cert.Proof

open Idealize.ShloMosaic

/-- The least entry of a row, `⊤` being the least of none. -/
def least {n : Nat} (D : Fin n → EReal) : EReal := Finset.univ.inf D

/-- Column `k` is the first of those with the least entry. -/
def IsFirst {n : Nat} (D : Fin n → EReal) (k : Fin n) : Prop := ∀ j, D k < D j ∨ (D k = D j ∧ k ≤ j)

/-- A row that is not empty has such a column. -/
theorem exists_isFirst {n : Nat} [NeZero n] (D : Fin n → EReal) : ∃ k, IsFirst D k := by
  obtain ⟨k, -, hk⟩ := Finset.exists_min_image (Finset.univ : Finset (Fin n)) (fun j => toLex (D j, j))
    ⟨0, Finset.mem_univ _⟩
  refine ⟨k, fun j => ?_⟩
  have h := hk j (Finset.mem_univ _)
  rcases (Prod.Lex.toLex_le_toLex).mp h with h | h
  · exact Or.inl h
  · exact Or.inr h

/-- That column, chosen once for every row. -/
def first {n : Nat} [NeZero n] (D : Fin n → EReal) : Fin n := (exists_isFirst D).choose

theorem isFirst_first {n : Nat} [NeZero n] (D : Fin n → EReal) : IsFirst D (first D) := (exists_isFirst D).choose_spec

/-- The entry of the first least column is the row's least entry. -/
theorem least_eq {n : Nat} [NeZero n] (D : Fin n → EReal) : least D = D (first D) := by
  refine le_antisymm (Finset.inf_le (Finset.mem_univ _)) (Finset.le_inf fun j _ => ?_)
  rcases isFirst_first D j with h | h
  · exact h.le
  · exact h.1.le

/-- A column number as the kernel keeps it: a number among the extended reals. -/
def colNum {n : Nat} (j : Fin n) : EReal := (((j : ℕ) : ℝ) : EReal)

theorem colNum_le {n : Nat} (i j : Fin n) : colNum i ≤ colNum j ↔ i ≤ j := by
  unfold colNum; rw [EReal.coe_le_coe_iff, Nat.cast_le, Fin.le_def]

theorem colNum_inj {n : Nat} (i j : Fin n) : colNum i = colNum j ↔ i = j := by
  rw [le_antisymm_iff, colNum_le, colNum_le, ← le_antisymm_iff]

open Classical in
/-- The number of the first column that attains the least entry, found by a second minimum. -/
def leastNum {n : Nat} (D : Fin n → EReal) : EReal :=
  Finset.univ.inf fun j => if D j = least D then colNum j else ⊤

/-- That second minimum is the number of the first least column. -/
theorem leastNum_eq {n : Nat} [NeZero n] (D : Fin n → EReal) : leastNum D = colNum (first D) := by
  unfold leastNum
  refine le_antisymm ((Finset.inf_le (Finset.mem_univ (first D))).trans ?_) (Finset.le_inf fun j _ => ?_)
  · rw [if_pos (least_eq D).symm]
  · split
    · next h =>
      rcases isFirst_first D j with h' | h'
      · exact absurd (h.trans (least_eq D)).symm h'.ne
      · exact (colNum_le _ _).mpr h'.2
    · exact le_top

/-- So a column's number equals it exactly at the first least column. -/
theorem colNum_eq_leastNum {n : Nat} [NeZero n] (D : Fin n → EReal) (j : Fin n) :
    colNum j = leastNum D ↔ j = first D := by
  rw [leastNum_eq, colNum_inj]

/-- A minimum over a row in which one column only is not overwritten by `⊤` is that column's entry. -/
theorem inf_ite_eq {n : Nat} (k : Fin n) (o : Fin n → EReal) :
    (Finset.univ.inf fun j => if j = k then o j else ⊤) = o k := by
  refine le_antisymm ((Finset.inf_le (Finset.mem_univ k)).trans (by rw [if_pos rfl])) (Finset.le_inf fun j _ => ?_)
  split
  · next h => rw [h]
  · exact le_top

/-- The row after `t` rounds: each round overwrites the first least column by `⊤`. -/
def rest {n : Nat} [NeZero n] (D : Fin n → EReal) : ℕ → Fin n → EReal
  | 0 => D
  | t + 1 => fun j => if j = first (rest D t) then ⊤ else rest D t j

/-- The column that round `t` takes. -/
def pick {n : Nat} [NeZero n] (D : Fin n → EReal) (t : ℕ) : Fin n := first (rest D t)

/-- After `t` rounds the columns taken so far hold `⊤` and the others what they held. -/
theorem rest_apply {n : Nat} [NeZero n] (D : Fin n → EReal) (t : ℕ) (j : Fin n) :
    ((∃ s < t, pick D s = j) → rest D t j = ⊤) ∧ ((∀ s < t, pick D s ≠ j) → rest D t j = D j) := by
  induction t with
  | zero => exact ⟨fun ⟨s, hs, _⟩ => absurd hs (Nat.not_lt_zero s), fun _ => rfl⟩
  | succ t ih =>
    have e : rest D (t + 1) j = if j = pick D t then ⊤ else rest D t j := rfl
    rw [e]
    by_cases h : j = pick D t
    · rw [if_pos h]
      exact ⟨fun _ => rfl, fun h' => absurd h.symm (h' t (Nat.lt_succ_self t))⟩
    · rw [if_neg h]
      refine ⟨fun ⟨s, hs, hj⟩ => ih.1 ⟨s, ?_, hj⟩, fun h' => ih.2 fun s hs => h' s (hs.trans (Nat.lt_succ_self t))⟩
      refine lt_of_le_of_ne (Nat.lt_succ_iff.mp hs) fun hst => h ?_
      rw [← hj, hst]

/-- While a column is left, the round takes one whose entry is not `⊤`, the row being below `⊤`. -/
theorem rest_pick_ne_top {n : Nat} [NeZero n] (D : Fin n → EReal) (hD : ∀ j, D j ≠ ⊤) (t : ℕ) (ht : t < n) :
    rest D t (pick D t) ≠ ⊤ := by
  classical
  obtain ⟨j, hj⟩ : ∃ j, j ∉ (Finset.range t).image (pick D) := by
    by_contra hall
    push Not at hall
    have hc : (Finset.univ : Finset (Fin n)).card ≤ ((Finset.range t).image (pick D)).card :=
      Finset.card_le_card fun j _ => hall j
    have := Finset.card_image_le (s := Finset.range t) (f := pick D)
    rw [Finset.card_range] at this
    rw [Finset.card_univ, Fintype.card_fin] at hc
    omega
  have hr : rest D t j = D j := (rest_apply D t j).2 fun s hs e =>
    hj (Finset.mem_image.mpr ⟨s, Finset.mem_range.mpr hs, e⟩)
  have hle : rest D t (pick D t) ≤ rest D t j := by
    rcases isFirst_first (rest D t) j with h | h
    · exact h.le
    · exact h.1.le
  exact fun h => hD j (hr ▸ top_le_iff.mp (h ▸ hle))

/-- So the column of a round is none of the earlier ones. -/
theorem pick_ne {n : Nat} [NeZero n] (D : Fin n → EReal) (hD : ∀ j, D j ≠ ⊤) (s t : ℕ) (hst : s < t) (ht : t < n) :
    pick D s ≠ pick D t := fun h =>
  rest_pick_ne_top D hD t ht ((rest_apply D t (pick D t)).1 ⟨s, hst, h⟩)

/-- The order both programs follow: by the entry, then by the column number. -/
def sooner {n : Nat} (D : Fin n → EReal) (j k : Fin n) : Bool :=
  decide (D j < D k) || (decide (D j = D k) && decide (j < k))

theorem sooner_total {n : Nat} (D : Fin n → EReal) : StrictTotalBefore (sooner D) :=
  StrictTotalBefore.of_key_then_position (fun a b : EReal => decide (a < b)) D (by simp)
    (fun a b c hab hbc => by simp only [decide_eq_true_eq] at *; exact hab.trans hbc)
    (fun a b => by simp only [decide_eq_true_eq]; exact lt_trichotomy a b)

/-- No column that is still in the row at round `t` comes sooner than the one the round takes. -/
theorem not_sooner_pick {n : Nat} [NeZero n] (D : Fin n → EReal) (hD : ∀ j, D j ≠ ⊤) (t : ℕ) (ht : t < n) (p : Fin n)
    (hp : ∀ s < t, pick D s ≠ p) : sooner D p (pick D t) = false := by
  have h := isFirst_first (rest D t) p
  rw [show first (rest D t) = pick D t from rfl,
    (rest_apply D t (pick D t)).2 fun s hs => pick_ne D hD s t hs ht, (rest_apply D t p).2 hp] at h
  unfold sooner
  simp only [Bool.or_eq_false_iff, Bool.and_eq_false_iff, decide_eq_false_iff_not]
  rcases h with h | ⟨h, hle⟩
  · exact ⟨not_lt.mpr h.le, Or.inl fun e => h.ne e.symm⟩
  · exact ⟨fun h' => h'.ne h.symm, Or.inr (not_lt.mpr hle)⟩

/-- A sort in that order puts at place `t` the column that round `t` takes. -/
theorem sortedFrom_sooner {n k : Nat} [NeZero n] (D : Fin n → EReal) (hD : ∀ j, D j ≠ ⊤) (hk : k ≤ n) (t : Fin k) :
    sortedFrom (sooner D) (t.castLE hk) = pick D t := by
  refine (sooner_total D).sortedFrom_eq_of_prefix hk (fun i => pick D i) ?_ ?_ ?_ t
  · intro i j hij
    rcases lt_trichotomy i j with h | h | h
    · exact absurd hij (pick_ne D hD i j h (j.isLt.trans_le hk))
    · exact h
    · exact absurd hij.symm (pick_ne D hD j i h (i.isLt.trans_le hk))
  · intro i j hij
    exact not_sooner_pick D hD i (i.isLt.trans_le hk) _ fun s hs =>
      pick_ne D hD s j (hs.trans hij) (j.isLt.trans_le hk)
  · intro i p hp
    exact not_sooner_pick D hD i (i.isLt.trans_le hk) p fun s hs => hp ⟨s, hs.trans i.isLt⟩

/-- A stable sort consults its order only for a pair in which the second stood before the first. So an order and the
    same order refined at its ties by the places sort a list of places in increasing order alike. -/
theorem stableSort_refine {n : Nat} (R R' : Fin n → Fin n → Bool) (l : List (Fin n)) (hl : l.Pairwise (· < ·))
    (h : ∀ a b, a < b → R b a = R' b a) : stableSort R l = stableSort R' l := by
  induction l with
  | nil => rfl
  | cons a l ih =>
    rw [List.pairwise_cons] at hl
    unfold stableSort
    rw [ih hl.2]
    exact insertBefore_congr R R' a _ fun b hb => h a b (hl.1 b ((perm_stableSort R' l).mem_iff.mp hb))

/-- THE STABLE SORT BY A KEY. If the order says "before" exactly when the row's entry is less, the stable sort puts at
    place `t` the column that round `t` takes. -/
theorem sortedFrom_key {n k : Nat} [NeZero n] (D : Fin n → EReal) (hD : ∀ j, D j ≠ ⊤) (R : Fin n → Fin n → Bool)
    (hR : ∀ i j, R i j = decide (D i < D j)) (hk : k ≤ n) (t : Fin k) :
    sortedFrom R (t.castLE hk) = pick D t := by
  rw [← sortedFrom_sooner D hD hk t]
  have e : sortPositions n R = sortPositions n (sooner D) :=
    stableSort_refine R (sooner D) _ (List.pairwise_lt_finRange n) fun a b hab => by
      rw [hR]
      unfold sooner
      rw [decide_eq_false (not_lt.mpr hab.le), Bool.and_false, Bool.or_false]
  unfold sortedFrom
  rw [List.get_of_eq e]
  rfl

end Cert.Proof

end
-- ==== Proof.Round.lean ====
/-
  One round of the kernel's neighbour search, for the 256 rows of a grid point at once.

  A round takes each row's least squared distance, of the columns that attain it the one with the least number (`vhit`
  marks it), and overwrites it by the mask (`vnext`). The kernel's text is eleven copies of this round; the definitions
  below are one copy, and the lemmas read them row by row as the selection of Select.lean.
-/
module

public import proofs.«01_k».proof.Proof.Gen.KernelIdeal.Skeleton
public import proofs.«01_k».proof.Proof.Select
public import Idealize.ShloMosaic.Lib.ValueIdx
public import Idealize.ShloMosaic.Lib.Pipeline.Value
public import Idealize.ShloMosaic.PureOps.Ideal.Laws

@[expose] public section

noncomputable section

namespace Cert.Proof

open Idealize.ShloMosaic Idealize.ShloMosaic.ValueIdx Cert.KernelIdeal Cert.KernelIdeal.Gen

/-! ## The round as the kernel writes it, for any float values -/

section Text
variable {F : FTy → Type} [FloatOps F] [Named F]

/-- The mask: the literal `3.0e38`, named. -/
def mask : F .f32 := Named.named κ "inf" 0x7F61B1E6#32

/-- Each row's minimum, as a column. -/
def rowMin (v : FVec F S256x8192 .f32) : FVec F S256x1 .f32 :=
  shapeCast S256x1 (multiReduction .minimumf [1] S256 v 0x7F800000#32 reduces_S256x8192_S256 (.inl rfl) rfl)
    shapeCasts_S256_S256x1

/-- A line of 8192 numbers, repeated down the 256 rows. -/
def rows (x : FVec F S1x8192 .f32) : FVec F S256x8192 .f32 := broadcastTo S256x8192 x broadcasts_S1x8192_S256x8192

/-- A column of 256 numbers, repeated along the 8192 columns. -/
def cols (x : FVec F S256x1 .f32) : FVec F S256x8192 .f32 := broadcastTo S256x8192 x broadcasts_S256x1_S256x8192

/-- Where a row attains its minimum. -/
def attains (D : FVec F S256x8192 .f32) : IVec S256x8192 1 := cmpf .oeq D (cols (rowMin D))

/-- A line where the marks are set and the mask elsewhere. -/
def masked (e : IVec S256x8192 1) (x : FVec F S1x8192 .f32) : FVec F S256x8192 .f32 :=
  select e (rows (shapeCast S1x8192 x shapeCasts_S1x8192_S1x8192)) (broadcast S256x8192 mask)

/-- The one column of each row that the round takes. -/
def vhit (D : FVec F S256x8192 .f32) : IVec S256x8192 1 :=
  cmpf .oeq (rows (k0_pay5 (F := F))) (cols (rowMin (masked (attains D) (k0_pay5 (F := F)))))

/-- The rows with that column overwritten by the mask. -/
def vnext (D : FVec F S256x8192 .f32) : FVec F S256x8192 .f32 := select (vhit D) (broadcast S256x8192 mask) D

/-- The rows after `t` rounds. -/
def vrest (D : FVec F S256x8192 .f32) : ℕ → FVec F S256x8192 .f32
  | 0 => D
  | t + 1 => vnext (vrest D t)

/-- The running sum, over the rounds after the first, of the distance between a row's opacity and the opacity of the
    column taken. -/
def vacc (D : FVec F S256x8192 .f32) (oall : FVec F S1x8192 .f32) (orow : FVec F S256x1 .f32) : ℕ → FVec F S256x1 .f32
  | 0 => k0_pay7
  | t + 1 => addf (vacc D oall orow t) (absf (subf orow (rowMin (masked (vhit (vrest D (t + 1))) oall))))

end Text

/-! ## The round read at a row, over the extended reals -/

/-- The named mask is `+∞`. -/
theorem mask_eq : (mask : Ideal .f32) = (⊤ : EReal) := rfl

/-- The word of `+∞` is `⊤`. -/
theorem ofBits_inf : Ideal.ofBits .f32 0x7F800000#32 = (⊤ : EReal) := by simp [Ideal.ofBits, Ideal.ieee]

/-- A minimum over one axis, from `+∞`, is the least of the entries along that axis. -/
theorem minimum_single {s t : Shape} {a : Fin s.rank} (v : FVec Ideal s .f32) (h : s.Reduces [a] t)
    (hφ : FKind.Formats .f32) (hacc : 0x7F800000#32 = FKind.minimumf.neutral .f32 hφ) (j : t.Idx) :
    multiReduction .minimumf [a] t v 0x7F800000#32 h hφ hacc j = least fun k : Fin (s.size a) => v (h.lift j k) := by
  rw [multiReduction_minimumf_eq_fold, h.fold_filter_drop_single]
  show Finset.univ.fold min (Ideal.ofBits .f32 0x7F800000#32) _ = _
  rw [ofBits_inf]
  rfl

/-- A row's minimum is the least of its entries. -/
theorem rowMin_apply (v : FVec Ideal S256x8192 .f32) (r : Fin 256) :
    rowMin v (ix2 r 0) = least fun j => v (ix2 r j) := by
  unfold rowMin
  rw [shapeCast_apply _ _ _ (ix1 r) (by
    rw [Shape.rowMajor_val_one, Shape.rowMajor_val_two]
    show r.val = r.val * 1 + 0
    omega)]
  refine (minimum_single v reduces_S256x8192_S256 (.inl rfl) rfl (ix1 r)).trans ?_
  refine Finset.inf_congr rfl fun j _ => congrArg v (funext fun a => Fin.ext ?_)
  match a with
  | ⟨0, _⟩ => rfl
  | ⟨1, _⟩ => rfl

/-- A repeated line reads its column. -/
theorem rows_apply (x : FVec Ideal S1x8192 .f32) (r : Fin 256) (j : Fin 8192) : rows x (ix2 r j) = x (ix2 0 j) :=
  broadcastTo_apply _ _ _ _ fun a => match a with | ⟨0, _⟩ => rfl | ⟨1, _⟩ => rfl

/-- A repeated column reads its row. -/
theorem cols_apply (x : FVec Ideal S256x1 .f32) (r : Fin 256) (j : Fin 8192) : cols x (ix2 r j) = x (ix2 r 0) :=
  broadcastTo_apply _ _ _ _ fun a => match a with | ⟨0, _⟩ => rfl | ⟨1, _⟩ => rfl

/-- The kernel's column numbers. -/
theorem colIota_apply (j : Fin 8192) : k0_pay5 (F := Ideal) (ix2 0 j) = colNum j := by
  unfold k0_pay5
  show ((((iota .tc S1x8192 32 [1] iota_S1x8192_d1_w32 (ix2 0 j)).toInt : ℤ) : ℝ) : EReal) = _
  rw [iota_single_apply]
  unfold colNum
  have h := j.isLt
  have e : (BitVec.ofNat 32 ((ix2 (0 : Fin 1) j) 1).val).toInt = ((j : ℕ) : ℤ) := by
    show (BitVec.ofNat 32 j.val).toInt = _
    rw [BitVec.toInt_eq_toNat_of_lt (by rw [BitVec.toNat_ofNat, Nat.mod_eq_of_lt (by omega)]; omega), BitVec.toNat_ofNat,
      Nat.mod_eq_of_lt (by omega)]
  rw [e, Int.cast_natCast]

/-- A choice between two values by a comparison for equality. -/
theorem select_oeq (x y a b : EReal) : Scalar.select (Ideal.cmp .oeq x y) a b = open Classical in if x = y then a else b := by
  unfold Ideal.cmp
  by_cases h : x = y
  · simp [h, Scalar.select]
  · simp [h, Scalar.select]

/-- … and of two vectors, at an index. -/
theorem select_oeq_apply {s : Shape} (x y a b : FVec Ideal s .f32) (i : s.Idx) :
    select (cmpf .oeq x y) a b i = open Classical in if (x i : EReal) = y i then a i else b i := select_oeq _ _ _ _

/-- A masked line read at a row and a column. -/
theorem masked_apply (x y : FVec Ideal S256x8192 .f32) (l : FVec Ideal S1x8192 .f32) (r : Fin 256) (j : Fin 8192) :
    masked (cmpf .oeq x y) l (ix2 r j) = open Classical in if x (ix2 r j) = y (ix2 r j) then l (ix2 0 j) else (⊤ : EReal) := by
  unfold masked
  rw [select_oeq_apply, shapeCast_self, rows_apply]
  rfl

/-- The second minimum of the round: the number of the first least column. -/
theorem rowNum_apply (D : FVec Ideal S256x8192 .f32) (r : Fin 256) :
    rowMin (masked (attains D) (k0_pay5 (F := Ideal))) (ix2 r 0) = leastNum fun j => D (ix2 r j) := by
  rw [rowMin_apply]
  unfold least leastNum
  refine Finset.inf_congr rfl fun j _ => ?_
  unfold attains
  rw [masked_apply, cols_apply, rowMin_apply, colIota_apply]

/-- The mark of a round compares column numbers: it is set at the first least column alone. -/
theorem vhit_iff (D : FVec Ideal S256x8192 .f32) (r : Fin 256) (j : Fin 8192) :
    (rows (k0_pay5 (F := Ideal)) (ix2 r j) = cols (rowMin (masked (attains D) (k0_pay5 (F := Ideal)))) (ix2 r j)) ↔ j = first fun j => D (ix2 r j) := by
  rw [rows_apply, cols_apply, colIota_apply, rowNum_apply, colNum_eq_leastNum]

/-- The next rows: the first least column overwritten by `⊤`. -/
theorem vnext_apply (D : FVec Ideal S256x8192 .f32) (r : Fin 256) (j : Fin 8192) :
    vnext D (ix2 r j) = if j = first (fun j => D (ix2 r j)) then (⊤ : EReal) else D (ix2 r j) := by
  unfold vnext vhit
  rw [select_oeq_apply]
  simp only [vhit_iff]
  rfl

/-- The rows after `t` rounds, read at a row: that row's entries after `t` rounds of selection. -/
theorem vrest_apply (D : FVec Ideal S256x8192 .f32) (r : Fin 256) (t : ℕ) :
    (fun j => vrest D t (ix2 r j)) = rest (fun j => D (ix2 r j)) t := by
  induction t with
  | zero => rfl
  | succ t ih =>
    funext j
    show vnext (vrest D t) (ix2 r j) = _
    rw [vnext_apply, ih]
    show _ = if j = first (rest (fun j => D (ix2 r j)) t) then (⊤ : EReal) else rest (fun j => D (ix2 r j)) t j
    rw [← congrFun ih j]

/-- The opacity found in round `t`: that of the column the round takes. -/
theorem taken_apply (D : FVec Ideal S256x8192 .f32) (oall : FVec Ideal S1x8192 .f32) (r : Fin 256) (t : ℕ) :
    rowMin (masked (vhit (vrest D t)) oall) (ix2 r 0) = oall (ix2 0 (pick (fun j => D (ix2 r j)) t)) := by
  rw [rowMin_apply]
  unfold vhit
  simp only [masked_apply, vhit_iff, vrest_apply]
  exact inf_ite_eq _ _

/-- The distance between two opacities. -/
def gap (x y : EReal) : EReal := max (x - y) (-(x - y))

/-- The running sum after `t` rounds beyond the first. -/
theorem vacc_apply (D : FVec Ideal S256x8192 .f32) (oall : FVec Ideal S1x8192 .f32) (orow : FVec Ideal S256x1 .f32)
    (r : Fin 256) (t : ℕ) :
    vacc D oall orow t (ix2 r 0)
      = ∑ k : Fin t, gap (orow (ix2 r 0)) (oall (ix2 0 (pick (fun j => D (ix2 r j)) (k + 1)))) := by
  induction t with
  | zero =>
    rw [Finset.univ_eq_empty, Finset.sum_empty]
    show Ideal.ofBits .f32 0x00000000#32 = 0
    simp [Ideal.ofBits, Ideal.ieee]
  | succ t ih =>
    rw [Fin.sum_univ_castSucc]
    show vacc D oall orow t (ix2 r 0) + gap (orow (ix2 r 0)) (rowMin (masked (vhit (vrest D (t + 1))) oall) (ix2 r 0)) = _
    rw [ih, taken_apply]
    rfl

end Cert.Proof

end
-- ==== Proof.Tile.lean ====
/-
  What one grid point leaves in the result's staging buffer, as a function of the blocks it reads.

  The first point stores the part of the loss that does not depend on neighbours and adds its own 256 rows' part of the
  smoothness loss to it; every later point adds its own rows' part to what the point before left.
-/
module

public import proofs.«01_k».proof.Proof.Gen.KernelIdeal.Frame
public import proofs.«01_k».proof.Proof.Round
public import Idealize.ShloMosaic.Lib.Pipeline.Value
public import Idealize.ShloMosaic.Lib.Tactic

@[expose] public section

noncomputable section

namespace Cert.Proof

open Idealize.ShloMosaic Idealize.ShloMosaic.TcCoe Idealize.SL.Sem Cert.KernelIdeal Cert.KernelIdeal.Gen

variable {F : FTy → Type} [FloatOps F] [Named F]

theorem zeros2 : (![0, 0] : Fin 2 → Nat) = fun _ => 0 := funext fun a => by fin_cases a <;> rfl

/-- The squared distances between a point's 256 rows and all 8192 rows, coordinate by coordinate. -/
def dist (x0 : Vec F S256x3 .f32) (x1 : Vec F S3x8192 .f32) : FVec F S256x8192 .f32 :=
  k0_pay4 (View.ld x0 (Rect.unit (s := S256x3) ![0, 0] S256x1.size inb_S256x3_S256x1_0_0))
    (View.ld x0 (Rect.unit (s := S256x3) ![0, 1] S256x1.size inb_S256x3_S256x1_0_1))
    (View.ld x0 (Rect.unit (s := S256x3) ![0, 2] S256x1.size inb_S256x3_S256x1_0_2))
    (View.ld x1 (Rect.unit (s := S3x8192) ![0, 0] S1x8192.size inb_S3x8192_S1x8192_0_0))
    (View.ld x1 (Rect.unit (s := S3x8192) ![1, 0] S1x8192.size inb_S3x8192_S1x8192_1_0))
    (View.ld x1 (Rect.unit (s := S3x8192) ![2, 0] S1x8192.size inb_S3x8192_S1x8192_2_0))

/-- A point's part of the smoothness loss: its rows' sums added up, weighted, and divided by the number of pairs. -/
def part (D : FVec F S256x8192 .f32) (oall : FVec F S1x8192 .f32) (orow : FVec F S256x1 .f32) : F .f32 :=
  Scalar.divf (Scalar.mulf (Scalar.ofBits .f32 0x3DCCCCCD#32)
    (extractAt ![0, 0, 0] (shapeCast S1x1x1 (multiReduction .add [1, 2] S1
      (shapeCast S1x256x1 (vacc D oall orow 10) shapeCasts_S256x1_S1x256x1) 0x00000000#32 reduces_S1x256x1_S1 (.inl rfl) rfl)
      shapeCasts_S1_S1x1x1) inpos_S1x1x1_p0_0_0)) (Scalar.ofBits .f32 0x47A00000#32)

/-- What the printed rounds leave of the distances, two rounds at a time. -/
theorem rounds_rest (D : FVec F S256x8192 .f32) :
    k0_pay12 D (k0_pay5 (F := F)) (attains D) mask = vrest D 2
      ∧ k0_pay17 (k0_pay5 (F := F)) (vrest D 2) (vhit (vrest D 2)) = vrest D 4
      ∧ k0_pay22 (k0_pay5 (F := F)) (vrest D 4) (vhit (vrest D 4)) = vrest D 6
      ∧ k0_pay27 (k0_pay5 (F := F)) (vrest D 6) (vhit (vrest D 6)) = vrest D 8 := ⟨rfl, rfl, rfl, rfl⟩

/-- The columns the printed rounds take next. -/
theorem rounds_hit (D : FVec F S256x8192 .f32) :
    k0_pay13 D (k0_pay5 (F := F)) (attains D) mask = vhit (vrest D 2)
      ∧ k0_pay18 (k0_pay5 (F := F)) (vrest D 2) (vhit (vrest D 2)) = vhit (vrest D 4)
      ∧ k0_pay23 (k0_pay5 (F := F)) (vrest D 4) (vhit (vrest D 4)) = vhit (vrest D 6)
      ∧ k0_pay28 (k0_pay5 (F := F)) (vrest D 6) (vhit (vrest D 6)) = vhit (vrest D 8)
      ∧ k0_pay32 (k0_pay5 (F := F)) (vrest D 8) (vhit (vrest D 8)) = vhit (vrest D 10) := ⟨rfl, rfl, rfl, rfl, rfl⟩

/-- The running sums of the printed rounds. -/
theorem rounds_acc (D : FVec F S256x8192 .f32) (oall : FVec F S1x8192 .f32) (orow : FVec F S256x1 .f32) :
    k0_pay11 oall D (k0_pay5 (F := F)) orow (k0_pay7 (F := F)) (attains D) mask = vacc D oall orow 1
      ∧ k0_pay16 oall (k0_pay5 (F := F)) orow (vacc D oall orow 1) (vrest D 2) (vhit (vrest D 2)) mask = vacc D oall orow 3
      ∧ k0_pay21 oall (k0_pay5 (F := F)) orow (vacc D oall orow 3) (vrest D 4) (vhit (vrest D 4)) mask = vacc D oall orow 5
      ∧ k0_pay26 oall (k0_pay5 (F := F)) orow (vacc D oall orow 5) (vrest D 6) (vhit (vrest D 6)) mask = vacc D oall orow 7
      ∧ k0_pay31 oall (k0_pay5 (F := F)) orow (vacc D oall orow 7) (vrest D 8) (vhit (vrest D 8)) mask = vacc D oall orow 9 :=
  ⟨rfl, rfl, rfl, rfl, rfl⟩

/-- The last round's payload: the last distance is added to the running sum, and the point's part to the old result. -/
theorem last_round (D : FVec F S256x8192 .f32) (oall : FVec F S1x8192 .f32) (orow : FVec F S256x1 .f32) (old : Vec F S1x1 .f32) :
    k0_pay1 oall orow (vacc D oall orow 9) (vhit (vrest D 10)) mask old = addf old (broadcast S1x1 (part D oall orow)) := by
  have h : k0_pay1 oall orow (vacc D oall orow 9) (vhit (vrest D 10)) mask old
      = addf (shapeCast S1x1 old shapeCasts_S1x1_S1x1) (broadcast S1x1 (part D oall orow)) := rfl
  rw [h, shapeCast_self]

/-- The first round's marks. -/
theorem first_marks (a b c : FVec F S256x1 .f32) (x y z : FVec F S1x8192 .f32) :
    k0_pay8 a b c x y z = attains (k0_pay4 a b c x y z) := rfl

/-- The loaded line of opacities, as it is. -/
theorem line_self (x : FVec F S1x8192 .f32) : k0_pay2 x = x := shapeCast_self ..

/-- The loaded column of opacities, as it is. -/
theorem column_self (x : FVec F S256x1 .f32) : k0_pay6 x = x := shapeCast_self ..

/-- The distance that stands for infinity, by its name. -/
theorem mask_named : (Named.named κ "inf" 2137108966#32 : F .f32) = mask := rfl

/-- A later point leaves what it found plus its own part. -/
theorem out_later (c : Dev nD) (i : grid0.Coords) (a1 : Memref sig .tc .vmem S256x3 .f32) (h1 : a1.IsWhole) (a2 : Memref sig .tc .vmem S3x8192 .f32) (h2 : a2.IsWhole) (a3 : Memref sig .tc .vmem S256x1 .f32) (h3 : a3.IsWhole) (a4 : Memref sig .tc .vmem S1x8192 .f32) (h4 : a4.IsWhole) (a5 : Memref sig .tc .vmem S3x8192 .f32) (h5 : a5.IsWhole) (a6 : Memref sig .tc .vmem S1x1 .f32) (h6 : a6.IsWhole) (hc : ¬cond0_0 i)
    (x0 : Vec F S256x3 .f32) (x1 : Vec F S3x8192 .f32) (x2 : Vec F S256x1 .f32) (x3 : Vec F S1x8192 .f32) (x4 : Vec F S3x8192 .f32) (xo : Vec F S1x1 .f32) :
    out0_B_5 c i a1 h1 a2 h2 a3 h3 a4 h4 a5 h5 a6 h6 hc x0 x1 x2 x3 x4 xo
      = addf xo (broadcast S1x1 (part (dist x0 x1) x3 x2)) := by
  unfold out0_B_5
  rw [View.read_writes_eq_canon _ _ _ (cover0_B_5 c i a1 h1 a2 h2 a3 h3 a4 h4 a5 h5 a6 h6 hc x0 x1 x2 x3 x4 xo)]
  unfold kernelRun0_B
  dsimp only
  rw [View.canon_unit_zero zeros2]
  sl_unfold_words
  simp only [View.readAt_eq_ld, h1.read_unread, h2.read_unread, h3.read_unread, h4.read_unread, h6.read_unread,
    View.ld_unit_zero (S := S1x1) zeros2, View.ld_unit_zero (S := S1x8192) zeros2, View.ld_unit_zero (S := S256x1) zeros2,
    first_marks, mask_named, line_self, column_self, rounds_rest, rounds_hit, rounds_acc, last_round]
  rfl

/-- The first point leaves the terms without neighbours plus its own part. -/
theorem out_first (c : Dev nD) (i : grid0.Coords) (a1 : Memref sig .tc .vmem S256x3 .f32) (h1 : a1.IsWhole) (a2 : Memref sig .tc .vmem S3x8192 .f32) (h2 : a2.IsWhole) (a3 : Memref sig .tc .vmem S256x1 .f32) (h3 : a3.IsWhole) (a4 : Memref sig .tc .vmem S1x8192 .f32) (h4 : a4.IsWhole) (a5 : Memref sig .tc .vmem S3x8192 .f32) (h5 : a5.IsWhole) (a6 : Memref sig .tc .vmem S1x1 .f32) (h6 : a6.IsWhole) (hc : cond0_0 i)
    (x0 : Vec F S256x3 .f32) (x1 : Vec F S3x8192 .f32) (x2 : Vec F S256x1 .f32) (x3 : Vec F S1x8192 .f32) (x4 : Vec F S3x8192 .f32) :
    out0_A_5 c i a1 h1 a2 h2 a3 h3 a4 h4 a5 h5 a6 h6 hc x0 x1 x2 x3 x4
      = addf (k0_pay3 x3 x4) (broadcast S1x1 (part (dist x0 x1) x3 x2)) := by
  unfold out0_A_5
  rw [View.read_writes_eq_canon _ _ _ (cover0_A_5 c i a1 h1 a2 h2 a3 h3 a4 h4 a5 h5 a6 h6 hc x0 x1 x2 x3 x4)]
  unfold kernelRun0_A
  dsimp only
  sl_unfold_words
  rw [View.canon_cons_unit_zero (S := S1x1) zeros2, View.readCov_unit_zero (S := S1x1) _ zeros2]
  simp only [View.readAt_eq_ld, h1.read_unread, h2.read_unread, h3.read_unread, h4.read_unread, h5.read_unread,
    View.ld_unit_zero (S := S3x8192) zeros2, View.ld_unit_zero (S := S1x8192) zeros2, View.ld_unit_zero (S := S256x1) zeros2,
    first_marks, mask_named, line_self, column_self, rounds_rest, rounds_hit, rounds_acc, last_round]
  rfl

end Cert.Proof

end
-- ==== Proof.Point.lean ====
/-
  The extended-real numbers a grid point computes: the squared distances, its part of the smoothness loss, and the
  terms without neighbours that the first point stores.
-/
module

public import proofs.«01_k».proof.Proof.Tile
public import Idealize.ShloMosaic.PureOps.Ideal.Laws

@[expose] public section

noncomputable section

namespace Cert.Proof

open Idealize.ShloMosaic Idealize.ShloMosaic.ValueIdx Cert.KernelIdeal Cert.KernelIdeal.Gen

/-- The number a printed f32 literal denotes. -/
abbrev lit (w : BitVec 32) : EReal := Ideal.ofBits .f32 w

/-- The magnitude of an extended real. -/
def mag (x : EReal) : EReal := max x (-x)

/-- The squared distance of two points of space, coordinate by coordinate. -/
def sqd (p q : Fin 3 → EReal) : EReal := (p 0 - q 0) * (p 0 - q 0) + (p 1 - q 1) * (p 1 - q 1) + (p 2 - q 2) * (p 2 - q 2)

/-- The terms of the loss without neighbours, in the kernel's order: sparsity, scales, opacities. -/
def alone (o : Fin 8192 → EReal) (s : Fin 8192 → Fin 3 → EReal) : EReal :=
  lit 0x3C23D70A#32 * Ideal.div (∑ i, mag (o i)) (lit 0x46000000#32)
    + Ideal.div (∑ i, ∑ c, mag (s i c - lit 0x3F800000#32)) (lit 0x46C00000#32)
    + Ideal.div (∑ i, (o i - lit 0x3F000000#32) * (o i - lit 0x3F000000#32)) (lit 0x46000000#32)

/-- A sum over both axes of an array, as the kernel takes it: through a shape with a leading axis of one. -/
theorem total_eq {s u : Shape} {axes : List (Fin u.rank)} (x : FVec Ideal s .f32) (hs : s.ShapeCasts u)
    (hr : u.Reduces axes S1) (hφ : FKind.Formats .f32) (hacc : 0x00000000#32 = FKind.add.neutral .f32 hφ)
    (h1 : S1.ShapeCasts S1x1x1) (hp : ∀ a, (![0, 0, 0] : Fin 3 → Nat) a < S1x1x1.size a) :
    extractAt ![0, 0, 0] (shapeCast S1x1x1 (multiReduction .add axes S1 (shapeCast u x hs) 0x00000000#32 hr hφ hacc) h1) hp
      = ∑ i, x i := by
  refine (Ideal.multiReduction_add_total (shapeCast u x hs) _ hr (fun b => by fin_cases b; rfl) hφ hacc _).trans ?_
  exact Equiv.sum_comp (Shape.reshapeEquiv hs) x

/-- A point's part of the loss, over its rows and the ten columns each row takes after the nearest. -/
theorem part_eq (D : FVec Ideal S256x8192 .f32) (oall : FVec Ideal S1x8192 .f32) (orow : FVec Ideal S256x1 .f32) :
    part D oall orow = Ideal.div (lit 0x3DCCCCCD#32 * ∑ r : Fin 256, ∑ k : Fin 10,
      gap (orow (ix2 r 0)) (oall (ix2 0 (pick (fun j => D (ix2 r j)) (k + 1))))) (lit 0x47A00000#32) := by
  have h := total_eq (vacc D oall orow 10) shapeCasts_S256x1_S1x256x1 reduces_S1x256x1_S1 (.inl rfl) rfl
    shapeCasts_S1_S1x1x1 inpos_S1x1x1_p0_0_0
  unfold part
  rw [h, sum_idx2]
  simp only [Fin.sum_univ_one, vacc_apply]
  rfl

/-- The terms without neighbours, as the first point stores them. -/
theorem stored_eq (x3 : FVec Ideal S1x8192 .f32) (x4 : FVec Ideal S3x8192 .f32) (j : S1x1.Idx) :
    k0_pay3 (F := Ideal) x3 x4 j = alone (fun i => x3 (ix2 0 i)) (fun i c => x4 (ix2 c i)) := by
  unfold k0_pay3
  dsimp only
  rw [line_self, shapeCast_self]
  have h (x : FVec Ideal S1x8192 .f32) := total_eq x shapeCasts_S1x8192_S1x1x8192 reduces_S1x1x8192_S1 (.inl rfl) rfl
    shapeCasts_S1_S1x1x1 inpos_S1x1x1_p0_0_0
  have h' (x : FVec Ideal S3x8192 .f32) := total_eq x shapeCasts_S3x8192_S1x3x8192 reduces_S1x3x8192_S1 (.inl rfl) rfl
    shapeCasts_S1_S1x1x1 inpos_S1x1x1_p0_0_0
  rw [h, h, h', sum_idx2, sum_idx2, sum_idx2, Fin.sum_univ_one, Fin.sum_univ_one, Finset.sum_comm]
  rfl

/-- The squared distances at a row and a column. -/
theorem dist_apply (x0 : FVec Ideal S256x3 .f32) (x1 : FVec Ideal S3x8192 .f32) (r : Fin 256) (j : Fin 8192) :
    dist (F := Ideal) x0 x1 (ix2 r j) = sqd (fun c => x0 (ix2 r c)) (fun c => x1 (ix2 c j)) := by
  have hx (k : Fin 3) (h) : View.ld (Val := Elt Ideal) (e' := .f32) x0 (Rect.unit (s := S256x3) ![0, k.val] S256x1.size h) (ix2 r 0) = x0 (ix2 r k) := by
    refine (congrFun (View.ld_unit (Val := Elt Ideal) (e := .f32) (S := S256x3) x0 _ _ h) _).trans (extractStridedSlice_apply _ _ _ _ _ fun a => ?_)
    match a with
    | ⟨0, _⟩ => show r.val = 0 + r.val; omega
    | ⟨1, _⟩ => show k.val = k.val + 0; omega
  have hy (k : Fin 3) (h) : View.ld (Val := Elt Ideal) (e' := .f32) x1 (Rect.unit (s := S3x8192) ![k.val, 0] S1x8192.size h) (ix2 0 j) = x1 (ix2 k j) := by
    refine (congrFun (View.ld_unit (Val := Elt Ideal) (e := .f32) (S := S3x8192) x1 _ _ h) _).trans (extractStridedSlice_apply _ _ _ _ _ fun a => ?_)
    match a with
    | ⟨0, _⟩ => show k.val = k.val + 0; omega
    | ⟨1, _⟩ => show j.val = 0 + j.val; omega
  unfold dist k0_pay4
  simp only [shapeCast_self]
  have hc (x : FVec Ideal S256x1 .f32) : broadcastTo S256x8192 x broadcasts_S256x1_S256x8192 (ix2 r j) = x (ix2 r 0) :=
    cols_apply x r j
  have hr (x : FVec Ideal S1x8192 .f32) : broadcastTo S256x8192 x broadcasts_S1x8192_S256x8192 (ix2 r j) = x (ix2 0 j) :=
    rows_apply x r j
  simp only [addf_apply, mulf_apply, subf_apply, hc, hr]
  have e0 := hx 0; have e1 := hx 1; have e2 := hx 2
  have f0 := hy 0; have f1 := hy 1; have f2 := hy 2
  simp only [Fin.val_zero, Fin.val_one, Fin.val_two] at e0 e1 e2 f0 f1 f2
  rw [e0, e1, e2, f0, f1, f2]
  rfl

end Cert.Proof

end
-- ==== Proof.Distance.lean ====
/-
  The reference's distances against the kernel's.

  The reference expands the square, `|p|² + |q|² − 2 p·q`, cuts it off at zero, takes its root and sorts by the negative.
  For finite positions the expansion is the squared distance itself, which is not negative, and the root keeps the order,
  so the reference ranks the rows as the kernel's squared distances do.
-/
module

public import proofs.«01_k».proof.Proof.Point

@[expose] public section

noncomputable section

namespace Cert.Proof

open Idealize.ShloMosaic

/-- The expanded square of a distance. -/
def expanded (p q : Fin 3 → EReal) : EReal :=
  (0 + ∑ k, p k * p k) + (0 + ∑ k, q k * q k) - lit 0x40000000#32 * ∑ k, p k * q k

/-- What the reference sorts by, greatest first. -/
def nearness (d : EReal) : EReal := -(Ideal.sqrt (max d 0))

/-- The squared distance of two points with finite coordinates, as a real number. -/
theorem sqd_real (p q : Fin 3 → ℝ) : sqd (fun k => p k) (fun k => q k)
    = (((p 0 - q 0) ^ 2 + (p 1 - q 1) ^ 2 + (p 2 - q 2) ^ 2 : ℝ) : EReal) := by
  unfold sqd
  push_cast
  simp only [pow_two]

/-- The literal two is two. -/
theorem lit_two : lit 0x40000000#32 = ((2 : ℝ) : EReal) := by
  simp [Ideal.ofBits, Ideal.ieee, -EReal.coe_mul]
  norm_num

/-- The expansion is the square. -/
theorem expanded_real (p q : Fin 3 → ℝ) :
    expanded (fun k => p k) (fun k => q k) = sqd (fun k => p k) (fun k => q k) := by
  rw [sqd_real]
  unfold expanded
  rw [lit_two, Fin.sum_univ_three, Fin.sum_univ_three, Fin.sum_univ_three]
  rw [← EReal.coe_zero]
  simp only [← EReal.coe_mul, ← EReal.coe_add, ← EReal.coe_sub]
  congr 1
  ring

/-- Of two numbers that are not negative the smaller is the nearer. -/
theorem nearness_lt (d e : ℝ) (hd : 0 ≤ d) (he : 0 ≤ e) :
    nearness (e : EReal) < nearness (d : EReal) ↔ (d : EReal) < (e : EReal) := by
  have h (x : ℝ) (hx : 0 ≤ x) : nearness (x : EReal) = ((-Real.sqrt x : ℝ) : EReal) := by
    unfold nearness
    have hm : max (x : EReal) 0 = x := max_eq_left (by exact_mod_cast hx)
    rw [hm, Ideal.sqrt_coe, if_neg (not_lt.mpr hx), EReal.coe_neg]
  rw [h d hd, h e he, EReal.coe_lt_coe_iff, EReal.coe_lt_coe_iff, neg_lt_neg_iff, Real.sqrt_lt_sqrt_iff hd]

/-- The reference's ranking of the rows by their expanded squares is the ranking by squared distance. -/
theorem nearer_iff (p q r : Fin 3 → EReal) (hp : ∀ k, p k ≠ ⊤ ∧ p k ≠ ⊥) (hq : ∀ k, q k ≠ ⊤ ∧ q k ≠ ⊥)
    (hr : ∀ k, r k ≠ ⊤ ∧ r k ≠ ⊥) :
    nearness (expanded p r) < nearness (expanded p q) ↔ sqd p q < sqd p r := by
  lift p to Fin 3 → ℝ using hp
  lift q to Fin 3 → ℝ using hq
  lift r to Fin 3 → ℝ using hr
  rw [expanded_real, expanded_real, sqd_real, sqd_real]
  exact nearness_lt _ _ (by positivity) (by positivity)

/-- A squared distance of finite positions is finite. -/
theorem sqd_ne_top (p q : Fin 3 → EReal) (hp : ∀ k, p k ≠ ⊤ ∧ p k ≠ ⊥) (hq : ∀ k, q k ≠ ⊤ ∧ q k ≠ ⊥) : sqd p q ≠ ⊤ := by
  lift p to Fin 3 → ℝ using hp
  lift q to Fin 3 → ℝ using hq
  rw [sqd_real]
  exact EReal.coe_ne_top _

end Cert.Proof

end
-- ==== Proof.Array.lean ====
/-
  What the whole launch leaves in the result array, as one number of the arguments.

  The windows hand a grid point its 256 rows of the positions and opacities and, whole, the transposed positions, the
  opacities as a line and the transposed scales. The result's one entry is carried from point to point, so after point
  `n` it is the terms without neighbours plus the parts of the points `0 … n`, added in that order.
-/
module

public import proofs.«01_k».proof.Proof.Gen.KernelIdeal.Value
public import proofs.«01_k».proof.Proof.Point
public import Idealize.ShloMosaic.Lib.StableHlo.Run
public import Idealize.ShloMosaic.Lib.StableHlo.RunRead

@[expose] public section

noncomputable section

namespace Cert.Proof

open Idealize.ShloMosaic Idealize.ShloMosaic.ValueIdx Idealize.ShloMosaic.TcCoe Idealize.SL.Sem
open Cert.KernelIdeal Cert.KernelIdeal.Gen

variable (m : (ℓ : Loc nD τ sig) → Buf (Elt Ideal) ℓ) (c : Dev nD)

/-! ## The arguments -/

/-- Coordinate `k` of position `i`. -/
def pos (i : Fin 8192) (k : Fin 3) : EReal := (m ((c : Thread nD τ).loc main_arg0) : FVec Ideal S8192x3 .f32) (ix2 i k)

/-- Opacity `i`. -/
def opa (i : Fin 8192) : EReal := (m ((c : Thread nD τ).loc main_arg1) : FVec Ideal S8192 .f32) (ix1 i)

/-- Scale `k` of row `i`. -/
def sca (i : Fin 8192) (k : Fin 3) : EReal := (m ((c : Thread nD τ).loc main_arg2) : FVec Ideal S8192x3 .f32) (ix2 i k)

/-! ## The arrays when the grid starts -/

/-- The transposed positions. -/
theorem start_posT (k : Fin 3) (i : Fin 8192) : (V m c main_call0_v0 : FVec Ideal S3x8192 .f32) (ix2 k i) = pos m c i k := by
  have h : (V m c main_call0_v0 : FVec Ideal S3x8192 .f32)
      = transpose S3x8192 [1, 0] (m ((c : Thread nD τ).loc main_arg0) : FVec Ideal S8192x3 .f32)
        transposes_S8192x3_S3x8192_1_0 := by
    show StableHlo.after hostOps0 (fun b => m (c, b)) (Proc.devRef .tc main_call0_v0) = _
    after_results
    try rfl
  rw [h]
  exact transpose_apply _ _ _ _ _ fun a => match a with | ⟨0, _⟩ => rfl | ⟨1, _⟩ => rfl

/-- The opacities as a column. -/
theorem start_opaCol (i : Fin 8192) : (V m c main_call0_v1 : FVec Ideal S8192x1 .f32) (ix2 i 0) = opa m c i := by
  have h : (V m c main_call0_v1 : FVec Ideal S8192x1 .f32)
      = shapeCast S8192x1 (m ((c : Thread nD τ).loc main_arg1) : FVec Ideal S8192 .f32) shapeCasts_S8192_S8192x1 := by
    show StableHlo.after hostOps0 (fun b => m (c, b)) (Proc.devRef .tc main_call0_v1) = _
    after_results
    try rfl
  rw [h]
  exact shapeCast_apply _ _ _ (ix1 i) (by
    rw [Shape.rowMajor_val_one, Shape.rowMajor_val_two]; show i.val = i.val * 1 + 0; omega)

/-- The opacities as a line. -/
theorem start_opaRow (i : Fin 8192) : (V m c main_call0_v2 : FVec Ideal S1x8192 .f32) (ix2 0 i) = opa m c i := by
  have h : (V m c main_call0_v2 : FVec Ideal S1x8192 .f32)
      = shapeCast S1x8192 (m ((c : Thread nD τ).loc main_arg1) : FVec Ideal S8192 .f32) shapeCasts_S8192_S1x8192 := by
    show StableHlo.after hostOps0 (fun b => m (c, b)) (Proc.devRef .tc main_call0_v2) = _
    after_results
    try rfl
  rw [h]
  exact shapeCast_apply _ _ _ (ix1 i) (by
    rw [Shape.rowMajor_val_one, Shape.rowMajor_val_two]; show i.val = 0 * 8192 + i.val; omega)

/-- The transposed scales. -/
theorem start_scaT (k : Fin 3) (i : Fin 8192) : (V m c main_call0_v3 : FVec Ideal S3x8192 .f32) (ix2 k i) = sca m c i k := by
  have h : (V m c main_call0_v3 : FVec Ideal S3x8192 .f32)
      = transpose S3x8192 [1, 0] (m ((c : Thread nD τ).loc main_arg2) : FVec Ideal S8192x3 .f32)
        transposes_S8192x3_S3x8192_1_0 := by
    show StableHlo.after hostOps0 (fun b => m (c, b)) (Proc.devRef .tc main_call0_v3) = _
    after_results
    try rfl
  rw [h]
  exact transpose_apply _ _ _ _ _ fun a => match a with | ⟨0, _⟩ => rfl | ⟨1, _⟩ => rfl

/-! ## The blocks the windows hand to a grid point -/

/-- Row `r` of grid point `t`, as a row of the arrays. -/
def row (t : Fin 32) (r : Fin 256) : Fin 8192 := ⟨256 * t.val + r.val, by omega⟩

/-- A grid point's number. -/
def pt (t : Fin cfg0.N) : Fin 32 := ⟨t.val, by have h : cfg0.N = 32 := N_0; have := t.isLt; omega⟩

theorem index_rows : ∀ t : Fin grid0.N,
    win0_0.index t 0 = t.val ∧ win0_0.index t 1 = 0 ∧ win0_2.index t 0 = t.val ∧ win0_2.index t 1 = 0 := by decide +kernel

theorem index_whole : ∀ t : Fin grid0.N, win0_1.index t 0 = 0 ∧ win0_1.index t 1 = 0 ∧ win0_3.index t 0 = 0
    ∧ win0_3.index t 1 = 0 ∧ win0_4.index t 0 = 0 ∧ win0_4.index t 1 = 0 := by decide +kernel

/-- Its rows of the positions. -/
theorem block_pos (t : Fin cfg0.N) (r : Fin 256) (k : Fin 3) :
    (iblk m c 0 t : FVec Ideal S256x3 .f32) (ix2 r k) = pos m c (row (pt t) r) k := by
  unfold iblk
  rw [View.read_apply]
  have h : V m c main_arg0 = m ((c : Thread nD τ).loc main_arg0) := V_main_arg0 m c
  show V m c main_arg0 _ = _
  rw [h]
  unfold pos
  congr 1
  funext a
  apply Fin.ext
  match a with
  | ⟨0, _⟩ => show win0_0.index t 0 * 256 + 1 * r.val = 256 * t.val + r.val; rw [(index_rows t).1]; omega
  | ⟨1, _⟩ => show win0_0.index t 1 * 3 + 1 * k.val = k.val; rw [(index_rows t).2.1]; omega

/-- All positions, transposed. -/
theorem block_posT (t : Fin cfg0.N) (k : Fin 3) (j : Fin 8192) :
    (iblk m c 1 t : FVec Ideal S3x8192 .f32) (ix2 k j) = pos m c j k := by
  rw [← start_posT]
  unfold iblk
  rw [View.read_apply]
  show V m c main_call0_v0 _ = V m c main_call0_v0 _
  congr 1
  funext a
  apply Fin.ext
  match a with
  | ⟨0, _⟩ => show win0_1.index t 0 * 3 + 1 * k.val = k.val; rw [(index_whole t).1]; omega
  | ⟨1, _⟩ => show win0_1.index t 1 * 8192 + 1 * j.val = j.val; rw [(index_whole t).2.1]; omega

/-- Its rows of the opacities. -/
theorem block_opaCol (t : Fin cfg0.N) (r : Fin 256) :
    (iblk m c 2 t : FVec Ideal S256x1 .f32) (ix2 r 0) = opa m c (row (pt t) r) := by
  rw [← start_opaCol]
  unfold iblk
  rw [View.read_apply]
  show V m c main_call0_v1 _ = V m c main_call0_v1 _
  congr 1
  funext a
  apply Fin.ext
  match a with
  | ⟨0, _⟩ => show win0_2.index t 0 * 256 + 1 * r.val = 256 * t.val + r.val; rw [(index_rows t).2.2.1]; omega
  | ⟨1, _⟩ => show win0_2.index t 1 * 1 + 1 * 0 = 0; rw [(index_rows t).2.2.2]

/-- All opacities. -/
theorem block_opaRow (t : Fin cfg0.N) (j : Fin 8192) :
    (iblk m c 3 t : FVec Ideal S1x8192 .f32) (ix2 0 j) = opa m c j := by
  rw [← start_opaRow]
  unfold iblk
  rw [View.read_apply]
  show V m c main_call0_v2 _ = V m c main_call0_v2 _
  congr 1
  funext a
  apply Fin.ext
  match a with
  | ⟨0, _⟩ => show win0_3.index t 0 * 1 + 1 * 0 = 0; rw [(index_whole t).2.2.1]
  | ⟨1, _⟩ => show win0_3.index t 1 * 8192 + 1 * j.val = j.val; rw [(index_whole t).2.2.2.1]; omega

/-- All scales, transposed. -/
theorem block_scaT (t : Fin cfg0.N) (k : Fin 3) (j : Fin 8192) :
    (iblk m c 4 t : FVec Ideal S3x8192 .f32) (ix2 k j) = sca m c j k := by
  rw [← start_scaT]
  unfold iblk
  rw [View.read_apply]
  show V m c main_call0_v3 _ = V m c main_call0_v3 _
  congr 1
  funext a
  apply Fin.ext
  match a with
  | ⟨0, _⟩ => show win0_4.index t 0 * 3 + 1 * k.val = k.val; rw [(index_whole t).2.2.2.2.1]; omega
  | ⟨1, _⟩ => show win0_4.index t 1 * 8192 + 1 * j.val = j.val; rw [(index_whole t).2.2.2.2.2]; omega

/-! ## The carried result -/

/-- The differences of opacity between row `i` and the ten rows nearest to it after the first. -/
def spread (o : Fin 8192 → EReal) (p : Fin 8192 → Fin 3 → EReal) (i : Fin 8192) : EReal :=
  ∑ k : Fin 10, gap (o i) (o (pick (fun j => sqd (p i) (p j)) (k + 1)))

/-- Grid point `t`'s part of the smoothness loss. -/
def share (o : Fin 8192 → EReal) (p : Fin 8192 → Fin 3 → EReal) (t : Fin 32) : EReal :=
  Ideal.div (lit 0x3DCCCCCD#32 * ∑ r : Fin 256, spread o p (row t r)) (lit 0x47A00000#32)

/-- A grid point's part, read off its blocks. -/
theorem part_share (t : Fin cfg0.N) :
    part (F := Ideal) (dist (iblk m c 0 t) (iblk m c 1 t)) (iblk m c 3 t) (iblk m c 2 t)
      = share (opa m c) (pos m c) (pt t) := by
  rw [part_eq]
  unfold share spread
  refine congrArg (fun s => Ideal.div (lit 0x3DCCCCCD#32 * s) (lit 0x47A00000#32)) ?_
  refine Finset.sum_congr rfl fun r _ => Finset.sum_congr rfl fun k _ => ?_
  rw [block_opaCol, block_opaRow]
  have h : (fun j => dist (F := Ideal) (iblk m c 0 t) (iblk m c 1 t) (ix2 r j))
      = fun j => sqd (pos m c (row (pt t) r)) (pos m c j) := by
    funext j
    rw [dist_apply]
    congr 1 <;> funext k
    · exact block_pos m c t r k
    · exact block_posT m c t k j
  rw [h]

/-- The terms without neighbours, read off a grid point's blocks. -/
theorem stored_alone (t : Fin cfg0.N) (j : S1x1.Idx) :
    k0_pay3 (F := Ideal) (iblk m c 3 t) (iblk m c 4 t) j = alone (opa m c) (sca m c) := by
  rw [stored_eq]
  congr 1
  · funext i; exact block_opaRow m c t i
  · funext i k; exact block_scaT m c t k i

/-- What the result holds after grid point `n`. -/
theorem carried (j : S1x1.Idx) : ∀ (n : ℕ) (h : n < cfg0.N), (outsAt0 m c n h : FVec Ideal S1x1 .f32) j
      = alone (opa m c) (sca m c) + ∑ t ∈ Finset.univ.filter (fun t : Fin 32 => t.val ≤ n), share (opa m c) (pos m c) t
  | 0, h => by
    rw [outsAt0_A m c ⟨0, h⟩ rfl, out_first, addf_apply, broadcast_apply, part_share, stored_alone]
    have e : Finset.univ.filter (fun t : Fin 32 => t.val ≤ 0) = {pt ⟨0, h⟩} := by
      ext t
      simp only [Finset.mem_filter, Finset.mem_univ, true_and, Finset.mem_singleton, Fin.ext_iff]
      show t.val ≤ 0 ↔ t.val = 0
      omega
    rw [e, Finset.sum_singleton]
  | n + 1, h => by
    have hN : cfg0.N = 32 := N_0
    have hB : ¬(⟨n + 1, h⟩ : Fin cfg0.N).val % 32 = 0 := by dsimp only; omega
    rw [outsAt0_B m c ⟨n + 1, h⟩ hB, out_later, addf_apply, broadcast_apply, part_share]
    refine (congrArg (· + _) (carried j n (Nat.lt_of_succ_lt h))).trans ?_
    have e : Finset.univ.filter (fun t : Fin 32 => t.val ≤ n + 1)
        = insert (pt ⟨n + 1, h⟩) (Finset.univ.filter (fun t : Fin 32 => t.val ≤ n)) := by
      ext t
      simp only [Finset.mem_filter, Finset.mem_univ, true_and, Finset.mem_insert, Fin.ext_iff]
      show t.val ≤ n + 1 ↔ t.val = n + 1 ∨ t.val ≤ n
      omega
    rw [e, Finset.sum_insert (fun hm => by
      have := (Finset.mem_filter.mp hm).2
      have : n + 1 ≤ n := this
      omega), add_assoc, add_comm (share _ _ _)]

/-- The number the kernel computes. -/
def computed (o : Fin 8192 → EReal) (p s : Fin 8192 → Fin 3 → EReal) : EReal := alone o s + ∑ t : Fin 32, share o p t

/-- The result array. -/
def result : Buf (Elt Ideal) ((c : Thread nD τ).loc main_v0) :=
  fun _ => computed (opa m c) (pos m c) (sca m c)

/-- What the result holds after the last grid point. -/
theorem carried_last (h : 31 < cfg0.N) : (outsAt0 m c 31 h : FVec Ideal S1x1 .f32) = result m c := by
  funext j
  rw [carried]
  unfold result computed
  have e : Finset.univ.filter (fun t : Fin 32 => t.val ≤ 31) = Finset.univ := by
    ext t; simp; omega
  rw [e]

/-- The last grid point. -/
def lastPt : Fin cfg0.N := ⟨31, by rw [show cfg0.N = 32 from N_0]; decide⟩

theorem index_last : ∀ t : Fin grid0.N, (win0_5.index t 0 = 0 ∧ win0_5.index t 1 = 0)
    ∧ win0_5.xsize (grid0.coords t) 0 = 1 ∧ win0_5.xsize (grid0.coords t) 1 = 1 := by decide +kernel

/-- The one write-back, after the last grid point, writes the result array. -/
theorem written (t : Fin cfg0.N) (hf : (cfg0.win 5).flush t = true) :
    (dats m 0 c).flushed 5 t = ((cfg0.win 5).blk t).view.read (Elt Ideal) (result m c) := by
  have hN : cfg0.N = 32 := N_0
  have h31 : t.val = 31 := by have := (flush0_5 t).mp hf; have := t.isLt; omega
  obtain rfl : t = lastPt := Fin.ext h31
  show (cfg0.win 5).cut (grid0.coords lastPt) ((dats m 0 c).after 5 lastPt) = _
  rw [after0_5]
  have e := carried_last m c lastPt.isLt
  have hz' : (fun a => win0_5.index lastPt a * main_v0.ty.shape.size a) = fun _ => 0 :=
    funext fun a => match a with
      | ⟨0, _⟩ => by show win0_5.index lastPt 0 * 1 = 0; rw [(index_last lastPt).1.1]
      | ⟨1, _⟩ => by show win0_5.index lastPt 1 * 1 = 0; rw [(index_last lastPt).1.2]
  refine Eq.trans ?_ (Memref.read_access_unit_zero (Elt Ideal) main_v0 hz' (fun a => by rw [congrFun hz' a]; simp) (result m c)).symm
  exact e

/-- The launch leaves it there. -/
theorem array_eq : (dats m 0 c).arrAt 5 cfg0.N = result m c :=
  (dats m 0 c).arrAt_eq_of_cover 5 (result m c) (written m c) fun i =>
    ⟨lastPt, (flush0_5 lastPt).mpr rfl, by
      show i ∈ ((View.whole main_v0).slice (win0_5.rect lastPt)).set
      rw [View.set_slice_whole, Rect.mem_set_unit]
      intro a
      have h0 : (i 0 : Nat) < 1 := (i 0).isLt
      have h1 : (i 1 : Nat) < 1 := (i 1).isLt
      match a with
      | ⟨0, _⟩ =>
        show win0_5.index lastPt 0 * win0_5.size 0 ≤ (i 0 : Nat)
          ∧ (i 0 : Nat) < win0_5.index lastPt 0 * win0_5.size 0 + win0_5.xsize (grid0.coords lastPt) 0
        rw [(index_last lastPt).1.1, (index_last lastPt).2.1]; omega
      | ⟨1, _⟩ =>
        show win0_5.index lastPt 1 * win0_5.size 1 ≤ (i 1 : Nat)
          ∧ (i 1 : Nat) < win0_5.index lastPt 1 * win0_5.size 1 + win0_5.xsize (grid0.coords lastPt) 1
        rw [(index_last lastPt).1.2, (index_last lastPt).2.2]; omega⟩

end Cert.Proof

end
-- ==== Proof.Reference.lean ====
/-
  The number the reference computes, as a function of its arguments.

  Read in the order of its text: the expanded squares of the distances, the ranking of each row's neighbours by them, the
  gathered opacities, and the four terms of the loss.
-/
module

public import proofs.«01_k».proof.Proof.Gen.ReferenceIdeal.Run
public import proofs.«01_k».proof.Proof.Distance
public import proofs.«01_k».proof.Proof.Array

@[expose] public section

noncomputable section

namespace Cert.Proof.Ref

open Idealize.ShloMosaic Idealize.ShloMosaic.ValueIdx Idealize.ShloMosaic.TcCoe Idealize.SL.Sem
open Cert.ReferenceIdeal Cert.ReferenceIdeal.Gen Cert.Proof

variable (A0 : FVec Ideal S8192x3 .f32) (A1 : FVec Ideal S8192 .f32) (A2 : FVec Ideal S8192x3 .f32)

/-! ## The text, in pieces -/

/-- The squared lengths of the positions. -/
def lengths : FVec Ideal S8192 .f32 :=
  Host.reduceAdd (mulf A0 A0) (constant S_ .f32 0x00000000#32) reducesTo_S8192x3_S8192_d1 h_S_

/-- The expanded squares of the distances. -/
def squares : FVec Ideal S8192x8192 .f32 :=
  subf (addf (broadcastInDim S8192x8192 ![0, 1] bcast_S8192x1_S8192x8192_0_1 (broadcastInDim S8192x1 ![0] bcast_S8192_S8192x1_0 (lengths A0)))
      (broadcastInDim S8192x8192 ![0, 1] bcast_S1x8192_S8192x8192_0_1 (broadcastInDim S1x8192 ![1] bcast_S8192_S1x8192_1 (lengths A0))))
    (mulf (broadcastInDim S8192x8192 ![] bcast_S_S8192x8192 (constant S_ .f32 0x40000000#32))
      (Host.dotGeneral dot_S8192x3_S3x8192_S8192x8192_1_0_0_1_n_n none A0 (transpose S3x8192 [1, 0] A0 transposes_S8192x3_S3x8192_1_0)))

/-- What each row is sorted by, greatest first. -/
def keys : FVec Ideal S8192x8192 .f32 :=
  Host.negf (Host.sqrt (maximumf (squares A0) (broadcastInDim S8192x8192 ![] bcast_S_S8192x8192 (constant S_ .f32 0x00000000#32))))

/-- The numbers of each row's ten nearest after the first. -/
def nearest : IVec S8192x10 32 :=
  extractStridedSlice S8192x10 ![0, 1]
    ((Host.topK S8192x11 1 (FloatOps.cmpfTotal .gt) (keys A0) sliceFits_S8192x8192_S8192x11).2) slices_S8192x11_S8192x10_0_1

/-- … as indices of a gather: a negative one counts from the end. -/
def indices : IVec S8192x10 32 :=
  select (cmpi .slt (nearest A0) (broadcastInDim S8192x10 ![] bcast_S_S8192x10 (constantI S_ 32 0#32)))
    (addi (nearest A0) (broadcastInDim S8192x10 ![] bcast_S_S8192x10 (constantI S_ 32 8192#32))) (nearest A0)

/-- The differences of opacity between each row and its ten neighbours. -/
def gaps : FVec Ideal S8192x10 .f32 :=
  Host.absf (subf (broadcastInDim S8192x10 ![0, 1] bcast_S8192x1_S8192x10_0_1 (broadcastInDim S8192x1 ![0] bcast_S8192_S8192x1_0 A1))
    (Host.gather gather_S8192_S8192x10x1_S8192x10_n_0_n_n_0_2_1 A1
      (broadcastInDim S8192x10x1 ![0, 1] bcast_S8192x10_S8192x10x1_0_1 (indices A0))))

/-- The loss. -/
def loss : FVec Ideal S_ .f32 :=
  addf (addf (addf
      (mulf (constant S_ .f32 0x3C23D70A#32) (Host.divf (Host.reduceAdd (Host.absf A1) (constant S_ .f32 0x00000000#32) reducesTo_S8192_S_d0 h_S_) (constant S_ .f32 0x46000000#32)))
      (mulf (constant S_ .f32 0x3DCCCCCD#32) (Host.divf (Host.reduceAdd (gaps A0 A1) (constant S_ .f32 0x00000000#32) reducesTo_S8192x10_S_d0_1 h_S_) (constant S_ .f32 0x47A00000#32))))
      (Host.divf (Host.reduceAdd (Host.absf (subf A2 (broadcastInDim S8192x3 ![] bcast_S_S8192x3 (constant S_ .f32 0x3F800000#32)))) (constant S_ .f32 0x00000000#32) reducesTo_S8192x3_S_d0_1 h_S_) (constant S_ .f32 0x46C00000#32)))
    (Host.divf (Host.reduceAdd (mulf (subf A1 (broadcastInDim S8192 ![] bcast_S_S8192 (constant S_ .f32 0x3F000000#32))) (subf A1 (broadcastInDim S8192 ![] bcast_S_S8192 (constant S_ .f32 0x3F000000#32)))) (constant S_ .f32 0x00000000#32) reducesTo_S8192_S_d0 h_S_) (constant S_ .f32 0x46000000#32))

theorem res_eq (m : (ℓ : Loc nD τ sig) → Buf (Elt Ideal) ℓ) (c : Dev nD) :
    Cert.ReferenceIdeal.Value.res_main_v48 (F := Ideal) m c
      = shapeCast S1x1 (loss (m ((c : Thread nD τ).loc main_arg0)) (m ((c : Thread nD τ).loc main_arg1))
          (m ((c : Thread nD τ).loc main_arg2))) shapeCasts_S_S1x1 := by
  unfold Cert.ReferenceIdeal.Value.res_main_v48
  rfl

/-! ## The expanded squares -/

/-- A sum over one axis, at an index. -/
theorem sum_single {s t u : Shape} {a : Fin s.rank} (x : FVec Ideal s .f32) (z : FVec Ideal u .f32) (h' : s.ReducesTo [a] t)
    (h : s.Reduces [a] t) (hu : 0 < u.numel) (hz : z = constant u .f32 0x00000000#32) (j : t.Idx) :
    Host.reduceAdd x z h' hu j = 0 + ∑ k : Fin (s.size a), x (h.lift j k) := by
  subst hz
  refine (Ideal.hostReduceAdd_single h' h x _ j).trans ?_
  rw [constant_apply]
  show Ideal.ofBits .f32 0x00000000#32 + _ = _
  rw [Ideal.ofBits_zero_f32]

/-- A sum over a whole array. -/
theorem sum_total {s t u : Shape} {axes : List (Fin s.rank)} (x : FVec Ideal s .f32) (z : FVec Ideal u .f32)
    (h' : s.ReducesTo axes t) (ht : ∀ b, t.size b = 1) (hu : 0 < u.numel) (hz : z = constant u .f32 0x00000000#32) (j : t.Idx) :
    Host.reduceAdd x z h' hu j = ∑ i, x i := by
  subst hz
  refine (Ideal.hostReduceAdd_total h' ht x _ j).trans ?_
  rw [constant_apply]
  show Ideal.ofBits .f32 0x00000000#32 + _ = _
  rw [Ideal.ofBits_zero_f32, zero_add]

theorem lengths_apply (i : Fin 8192) : lengths A0 (ix1 i) = 0 + ∑ k : Fin 3, A0 (ix2 i k) * A0 (ix2 i k) := by
  unfold lengths
  have hr : S8192x3.Reduces [1] S8192 := by decide
  refine (sum_single (mulf A0 A0) _ reducesTo_S8192x3_S8192_d1 hr h_S_ rfl (ix1 i)).trans ?_
  refine congrArg (0 + ·) (Finset.sum_congr rfl fun k _ => ?_)
  have e : hr.lift (ix1 i) k = ix2 i k := funext fun a => Fin.ext (match a with | ⟨0, _⟩ => rfl | ⟨1, _⟩ => rfl)
  rw [mulf_apply, e]
  rfl

theorem dot_apply (i j : Fin 8192) :
    Host.dotGeneral dot_S8192x3_S3x8192_S8192x8192_1_0_0_1_n_n none A0
      (transpose S3x8192 [1, 0] A0 transposes_S8192x3_S3x8192_1_0) (ix2 i j) = ∑ k : Fin 3, A0 (ix2 i k) * A0 (ix2 j k) := by
  refine (Ideal.dotGeneral_apply dot_S8192x3_S3x8192_S8192x8192_1_0_0_1_n_n none _ A0 _ (ix2 i j)).trans ?_
  rw [← Equiv.sum_comp (contrEquiv1 dot_S8192x3_S3x8192_S8192x8192_1_0_0_1_n_n 3 rfl rfl).symm]
  refine Finset.sum_congr rfl fun k _ => ?_
  congr 1
  · refine congrArg A0 (funext fun a => Fin.ext ?_)
    match a with
    | ⟨0, _⟩ => rfl
    | ⟨1, _⟩ => exact contrEquiv1_symm_val dot_S8192x3_S3x8192_S8192x8192_1_0_0_1_n_n 3 rfl rfl k
  · refine transpose_apply _ _ _ _ _ fun a => ?_
    match a with
    | ⟨0, _⟩ => exact (contrEquiv1_symm_val dot_S8192x3_S3x8192_S8192x8192_1_0_0_1_n_n 3 rfl rfl k).symm
    | ⟨1, _⟩ => rfl

theorem squares_apply (i j : Fin 8192) :
    squares A0 (ix2 i j) = expanded (fun k => A0 (ix2 i k)) (fun k => A0 (ix2 j k)) := by
  unfold squares expanded
  rw [subf_apply, addf_apply, mulf_apply, dot_apply]
  rw [broadcastInDim_apply ![0, 1] bcast_S8192x1_S8192x8192_0_1 _ (ix2 i j) (ix2 i 0) (fun a => match a with | ⟨0, _⟩ => rfl | ⟨1, _⟩ => rfl),
    broadcastInDim_apply ![0] bcast_S8192_S8192x1_0 _ (ix2 i 0) (ix1 i) (fun a => match a with | ⟨0, _⟩ => rfl),
    broadcastInDim_apply ![0, 1] bcast_S1x8192_S8192x8192_0_1 _ (ix2 i j) (ix2 0 j) (fun a => match a with | ⟨0, _⟩ => rfl | ⟨1, _⟩ => rfl),
    broadcastInDim_apply ![1] bcast_S8192_S1x8192_1 _ (ix2 0 j) (ix1 j) (fun a => match a with | ⟨0, _⟩ => rfl),
    lengths_apply, lengths_apply]
  rfl

/-- What an array is sorted by, read at an index. -/
theorem nearness_apply {s : Shape} (x z : FVec Ideal s .f32) (j : s.Idx) (hz : z j = 0) :
    Host.negf (Host.sqrt (maximumf x z)) j = nearness (x j) := by
  have h : Host.negf (Host.sqrt (maximumf x z)) j = -(Ideal.sqrt (max (x j) (z j))) := rfl
  rw [h, hz]
  rfl

theorem keys_apply (i j : Fin 8192) :
    keys A0 (ix2 i j) = nearness (expanded (fun k => A0 (ix2 i k)) (fun k => A0 (ix2 j k))) := by
  rw [← squares_apply]
  exact nearness_apply (squares A0) _ _ Ideal.ofBits_zero_f32

/-! ## The neighbours -/

/-- The positions of the greatest entries of a row, when the comparison is that of `D`: the columns that rounds take. -/
theorem topK_apply {n k R : ℕ} [NeZero n] (D : Fin n → EReal) (hD : ∀ j, D j ≠ ⊤)
    (x : (⟨2, ![R, n]⟩ : Shape).Idx → EReal) (gt : EReal → EReal → BitVec 1) (hk : k ≤ n) (r : Fin R)
    (hgt : ∀ i j, (gt (x (ix2 r i)) (x (ix2 r j)) == 1#1) = decide (D i < D j))
    (h : (⟨2, ![R, n]⟩ : Shape).Slices (fun _ => 0) ⟨2, ![R, k]⟩) (t : Fin k) :
    (Host.topK ⟨2, ![R, k]⟩ 1 gt x h).2 (ix2 r t) = BitVec.ofNat 32 (pick D t).val := by
  have ht : (fun a => ⟨0 + ((ix2 r t) (a.cast h.1.symm)).val, Nat.lt_of_lt_of_le (Nat.add_lt_add_left ((ix2 r t) _).isLt _) (h.2 a)⟩ :
      (⟨2, ![R, n]⟩ : Shape).Idx) = ix2 r (t.castLE hk) := by
    funext a
    match a with
    | ⟨0, _⟩ => exact Fin.ext (Nat.zero_add _)
    | ⟨1, _⟩ => exact Fin.ext (Nat.zero_add _)
  have al (i : Fin n) : Shape.Idx.along (s := ⟨2, ![R, n]⟩) (ix2 r (t.castLE hk)) 1 i = ix2 r i := by
    funext a
    match a with
    | ⟨0, _⟩ => rfl
    | ⟨1, _⟩ => rfl
  have e : (Host.topK ⟨2, ![R, k]⟩ 1 gt x h).2 (ix2 r t)
      = (Host.sort2 ⟨2, ![R, n]⟩ 1 (fun l r => gt l.1 r.1) x
          (fun i => BitVec.ofNat 32 (i 1).val)).2 (ix2 r (t.castLE hk)) := by
    rw [← ht]
    rfl
  have e' : (Host.sort2 ⟨2, ![R, n]⟩ 1 (fun l r => gt l.1 r.1) x
          (fun i => BitVec.ofNat 32 (i 1).val)).2 (ix2 r (t.castLE hk))
      = BitVec.ofNat 32 (sortedFrom (fun i j : Fin n => gt (x (Shape.Idx.along (s := ⟨2, ![R, n]⟩) (ix2 r (t.castLE hk)) 1 i))
          (x (Shape.Idx.along (s := ⟨2, ![R, n]⟩) (ix2 r (t.castLE hk)) 1 j)) == 1#1) (t.castLE hk)).val := rfl
  rw [e, e', sortedFrom_key D hD _ (fun i j => by rw [al, al]; exact hgt i j) hk t]

/-- The neighbour numbers, when the positions are finite: the columns that the rounds after the first take. -/
theorem nearest_apply (hA : ∀ i, A0 i ≠ ⊤ ∧ A0 i ≠ ⊥) (i : Fin 8192) (k : Fin 10) :
    nearest A0 (ix2 i k)
      = BitVec.ofNat 32 (pick (fun j => sqd (fun c => A0 (ix2 i c)) (fun c => A0 (ix2 j c))) (k + 1)).val := by
  unfold nearest
  have hs := extractStridedSlice_apply ![0, 1]
    ((Host.topK S8192x11 1 (FloatOps.cmpfTotal .gt) (keys A0) sliceFits_S8192x8192_S8192x11).2) slices_S8192x11_S8192x10_0_1
    (ix2 i k) (ix2 i k.succ) (fun a => match a with
      | ⟨0, _⟩ => by show i.val = 0 + i.val; omega
      | ⟨1, _⟩ => by show k.val + 1 = 1 + k.val; omega)
  refine hs.trans ?_
  refine topK_apply (fun j => sqd (fun c => A0 (ix2 i c)) (fun c => A0 (ix2 j c)))
    (fun j => sqd_ne_top _ _ (fun c => hA _) (fun c => hA _)) (keys A0) _ (by decide) i (fun j l => ?_) _ k.succ
  rw [keys_apply, keys_apply]
  have hn := nearer_iff (fun c => A0 (ix2 i c)) (fun c => A0 (ix2 j c)) (fun c => A0 (ix2 l c))
    (fun c => hA _) (fun c => hA _) (fun c => hA _)
  rw [Ideal.cmpfTotal_def]
  unfold Ideal.cmp
  simp only [CmpDirection.ordered]
  rw [decide_eq_decide.mpr hn]
  have hb (b : Bool) : (BitVec.ofBool b == 1#1) = b := by cases b <;> rfl
  exact hb _

/-- A number below 8192, as a 32-bit word, read signed. -/
theorem word_toInt (n : ℕ) (hn : n < 8192) : (BitVec.ofNat 32 n).toInt = n := by
  rw [BitVec.toInt_eq_toNat_of_lt (by rw [BitVec.toNat_ofNat]; omega), BitVec.toNat_ofNat]
  omega

/-- A neighbour number is never negative, so it is its own gather index. -/
theorem indices_apply (hA : ∀ i, A0 i ≠ ⊤ ∧ A0 i ≠ ⊥) (i : Fin 8192) (k : Fin 10) :
    indices A0 (ix2 i k)
      = BitVec.ofNat 32 (pick (fun j => sqd (fun c => A0 (ix2 i c)) (fun c => A0 (ix2 j c))) (k + 1)).val := by
  rw [← nearest_apply A0 hA]
  unfold indices
  rw [select_apply]
  have h : cmpi .slt (nearest A0) (broadcastInDim S8192x10 ![] bcast_S_S8192x10 (constantI S_ 32 0#32)) (ix2 i k) = 0#1 := by
    show BitVec.ofBool ((nearest A0 (ix2 i k)).slt 0#32) = 0#1
    rw [nearest_apply A0 hA, BitVec.slt, BitVec.toInt_zero, word_toInt _ (Fin.isLt _),
      decide_eq_false (not_lt.mpr (Int.natCast_nonneg _))]
    rfl
  rw [h, select_zero]

/-- The differences of opacity. -/
theorem gaps_apply (hA : ∀ i, A0 i ≠ ⊤ ∧ A0 i ≠ ⊥) (i : Fin 8192) (k : Fin 10) :
    gaps A0 A1 (ix2 i k)
      = gap (A1 (ix1 i)) (A1 (ix1 (pick (fun j => sqd (fun c => A0 (ix2 i c)) (fun c => A0 (ix2 j c))) (k + 1)))) := by
  have hl : broadcastInDim S8192x10 ![0, 1] bcast_S8192x1_S8192x10_0_1 (broadcastInDim S8192x1 ![0] bcast_S8192_S8192x1_0 A1) (ix2 i k)
      = A1 (ix1 i) := by
    rw [broadcastInDim_apply ![0, 1] bcast_S8192x1_S8192x10_0_1 _ (ix2 i k) (ix2 i 0) (fun a => match a with | ⟨0, _⟩ => rfl | ⟨1, _⟩ => rfl),
      broadcastInDim_apply ![0] bcast_S8192_S8192x1_0 _ (ix2 i 0) (ix1 i) (fun a => match a with | ⟨0, _⟩ => rfl)]
  have hg : Host.gather gather_S8192_S8192x10x1_S8192x10_n_0_n_n_0_2_1 A1
      (broadcastInDim S8192x10x1 ![0, 1] bcast_S8192x10_S8192x10x1_0_1 (indices A0)) (ix2 i k)
      = A1 (ix1 (pick (fun j => sqd (fun c => A0 (ix2 i c)) (fun c => A0 (ix2 j c))) (k + 1))) := by
    refine (gather_take_apply (N := 8192) (R := 8192) (C := 10) (by decide)
      gather_S8192_S8192x10x1_S8192x10_n_0_n_n_0_2_1_wf A1 _ (ix2 i k)).trans ?_
    refine congrArg (fun j => A1 (ix1 j)) (Fin.ext ?_)
    show min (broadcastInDim S8192x10x1 ![0, 1] bcast_S8192x10_S8192x10x1_0_1 (indices A0) (takeIdx (ix2 i k))).toInt.toNat (8192 - 1) = _
    rw [broadcastInDim_apply ![0, 1] bcast_S8192x10_S8192x10x1_0_1 _ _ (ix2 i k) (fun a => match a with | ⟨0, _⟩ => rfl | ⟨1, _⟩ => rfl),
      indices_apply A0 hA, word_toInt _ (Fin.isLt _)]
    have := (pick (fun j => sqd (fun c => A0 (ix2 i c)) (fun c => A0 (ix2 j c))) (k + 1)).isLt
    omega
  have hd : gaps A0 A1 (ix2 i k) = gap (broadcastInDim S8192x10 ![0, 1] bcast_S8192x1_S8192x10_0_1 (broadcastInDim S8192x1 ![0] bcast_S8192_S8192x1_0 A1) (ix2 i k))
      (Host.gather gather_S8192_S8192x10x1_S8192x10_n_0_n_n_0_2_1 A1
        (broadcastInDim S8192x10x1 ![0, 1] bcast_S8192x10_S8192x10x1_0_1 (indices A0)) (ix2 i k)) := rfl
  rw [hd, hl, hg]

/-! ## The loss -/

/-- The number the reference computes. -/
def expected (o : Fin 8192 → EReal) (p s : Fin 8192 → Fin 3 → EReal) : EReal :=
  lit 0x3C23D70A#32 * Ideal.div (∑ i, mag (o i)) (lit 0x46000000#32)
    + lit 0x3DCCCCCD#32 * Ideal.div (∑ i, spread o p i) (lit 0x47A00000#32)
    + Ideal.div (∑ i, ∑ c, mag (s i c - lit 0x3F800000#32)) (lit 0x46C00000#32)
    + Ideal.div (∑ i, (o i - lit 0x3F000000#32) * (o i - lit 0x3F000000#32)) (lit 0x46000000#32)

/-- A sum over the indices of an axis. -/
theorem sum_ix1 (f : S8192.Idx → EReal) : ∑ i, f i = ∑ i : Fin 8192, f (ix1 i) :=
  (Fintype.sum_equiv ⟨fun k : Fin 8192 => (ix1 k : S8192.Idx), fun i => i 0, fun _ => rfl, fun i => (eq_ix1 i).symm⟩
    (fun k => f (ix1 k)) f fun _ => rfl).symm

theorem loss_eq (hA : ∀ i, A0 i ≠ ⊤ ∧ A0 i ≠ ⊥) (j : S_.Idx) :
    loss A0 A1 A2 j = expected (fun i => A1 (ix1 i)) (fun i c => A0 (ix2 i c)) (fun i c => A2 (ix2 i c)) := by
  have h1 (x : FVec Ideal S8192 .f32) := sum_total x _ reducesTo_S8192_S_d0 (fun b => b.elim0) h_S_ rfl j
  have h2 := sum_total (gaps A0 A1) _ reducesTo_S8192x10_S_d0_1 (fun b => b.elim0) h_S_ rfl j
  have h3 (x : FVec Ideal S8192x3 .f32) := sum_total x _ reducesTo_S8192x3_S_d0_1 (fun b => b.elim0) h_S_ rfl j
  have hd {s : Shape} (x y : FVec Ideal s .f32) (i : s.Idx) : Host.divf x y i = Ideal.div (x i) (y i) := rfl
  unfold loss
  rw [addf_apply, addf_apply, addf_apply, mulf_apply, mulf_apply, hd, hd, hd, hd, h1, h1, h2, h3, sum_ix1, sum_ix1,
    sum_idx2, sum_idx2]
  simp only [gaps_apply A0 A1 hA]
  rfl

end Cert.Proof.Ref

end
-- ==== Proof.Equation.lean ====
/-
  The number the kernel computes is the number the reference computes.

  The kernel weights and divides each grid point's sum of differences and adds the 32 results; the reference adds all
  differences first. The differences are not negative, so the common factor moves through the sums whatever is infinite.
-/
module

public import proofs.«01_k».proof.Proof.Reference

@[expose] public section

noncomputable section

namespace Cert.Proof

open Idealize.ShloMosaic

/-- A difference of opacity is not negative. -/
theorem gap_nonneg (x y : EReal) : 0 ≤ gap x y := by
  unfold gap
  rcases le_total 0 (x - y) with h | h
  · exact le_max_of_le_left h
  · exact le_max_of_le_right (EReal.neg_nonneg.mpr h)

/-- A row's sum of differences is not negative. -/
theorem spread_nonneg (o : Fin 8192 → EReal) (p : Fin 8192 → Fin 3 → EReal) (i : Fin 8192) : 0 ≤ spread o p i :=
  Finset.sum_nonneg fun _ _ => gap_nonneg _ _

/-- A factor moves through a sum of numbers that are not negative. -/
theorem sum_mul_nonneg {ι : Type*} (s : Finset ι) (f : ι → EReal) (hf : ∀ i, 0 ≤ f i) (x : EReal) :
    (∑ i ∈ s, f i) * x = ∑ i ∈ s, f i * x := by
  classical
  induction s using Finset.induction_on with
  | empty => simp
  | insert a s ha ih =>
    rw [Finset.sum_insert ha, Finset.sum_insert ha,
      EReal.right_distrib_of_nonneg (hf a) (Finset.sum_nonneg fun i _ => hf i), ih]

/-- The literal 81920 is 81920. -/
theorem lit_pairs : lit 0x47A00000#32 = ((81920 : ℝ) : EReal) := by
  simp [Ideal.ofBits, Ideal.ieee, -EReal.coe_mul]
  norm_num

/-- A weight moves through a division by the number of pairs. -/
theorem weight_div (w S : EReal) : Ideal.div (w * S) (lit 0x47A00000#32) = w * Ideal.div S (lit 0x47A00000#32) := by
  rw [lit_pairs, Ideal.div_coe (by norm_num), Ideal.div_coe (by norm_num), mul_assoc]

/-- The rows, grid point by grid point, are all rows. -/
theorem sum_rows (f : Fin 8192 → EReal) : ∑ t : Fin 32, ∑ r : Fin 256, f (row t r) = ∑ i, f i := by
  rw [← Fintype.sum_prod_type']
  refine Fintype.sum_equiv (finProdFinEquiv : Fin 32 × Fin 256 ≃ Fin 8192) _ _ fun x => congrArg f (Fin.ext ?_)
  show 256 * x.1.val + x.2.val = x.2.val + 256 * x.1.val
  omega

/-- The grid points' parts add up to the reference's smoothness term. -/
theorem shares_eq (o : Fin 8192 → EReal) (p : Fin 8192 → Fin 3 → EReal) :
    ∑ t : Fin 32, share o p t
      = lit 0x3DCCCCCD#32 * Ideal.div (∑ i, spread o p i) (lit 0x47A00000#32) := by
  have h (t : Fin 32) : share o p t
      = (∑ r : Fin 256, spread o p (row t r)) * (lit 0x3DCCCCCD#32 * ((1 / 81920 : ℝ) : EReal)) := by
    unfold share
    rw [weight_div, lit_pairs, Ideal.div_coe (by norm_num), mul_left_comm]
  simp only [h]
  rw [← sum_mul_nonneg Finset.univ _ (fun t => Finset.sum_nonneg fun r _ => spread_nonneg o p _), sum_rows, lit_pairs,
    Ideal.div_coe (by norm_num), mul_left_comm]

/-- The two numbers are equal. -/
theorem computed_eq_expected (o : Fin 8192 → EReal) (p s : Fin 8192 → Fin 3 → EReal) :
    computed o p s = Ref.expected o p s := by
  unfold computed Ref.expected alone
  rw [shares_eq, add_assoc, add_right_comm]
  simp only [add_assoc, add_comm, add_left_comm]

end Cert.Proof

end
-- ==== Proof.lean ====
/-
  The certificate of the nearest-neighbour opacity loss: the kernel's runs, its idealization, and the equality of its
  result with the reference's, put together from the modules under `Proof/`.
-/
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.ShloMosaic.ValueIdx Idealize.ShloMosaic.TcCoe Idealize.SL.Sem

/-- The shape fact the precondition states. -/
theorem finite_facts : Cert.Pre_finite_positions.Facts where
  bcast_S_S8192x3 := Cert.ReferenceIdeal.Gen.facts.bcast_S_S8192x3

/-- The kernel runs, leaves its arguments as they were and ends quiescent. -/
theorem frame_kernel : Cert.quiescent_Kernel (hKernel := Cert.Kernel.Gen.facts) :=
  fun m ρ _ => Cert.Kernel.Gen.frame m ρ

/-- So does its idealization. -/
theorem frame_ideal : Cert.quiescent_KernelIdeal (hKernelIdeal := Cert.KernelIdeal.Gen.facts) :=
  fun m ρ _ => Cert.KernelIdeal.Gen.frame m ρ

/-- So does the reference. -/
theorem frame_reference : Cert.quiescent_ReferenceIdeal (hReferenceIdeal := Cert.ReferenceIdeal.Gen.facts) :=
  fun m ρ _ => (θ_run Cert.ReferenceIdeal.defs _ _).mono
    (fun r h => ⟨fun c => (h c).2, sem_eq_zero_of_no_sems rfl r.2⟩)
    (Cert.ReferenceIdeal.Value.run (F := Ideal) m ρ)

/-- The mask literal is read as `+∞`, as the table of named constants says. -/
theorem preserves : Cert.preserves_Kernel_KernelIdeal :=
  IdealRules.named_const.statement Cert.KernelIdeal.κ "inf" .f32 0x7F61B1E6#32 ⊤ rfl

/-- A number whose magnitude is below `+∞` is neither infinity. -/
theorem finite_of_mag_lt (x : EReal) (h : max x (-x) < ⊤) : x ≠ ⊤ ∧ x ≠ ⊥ := by
  constructor <;> rintro rfl <;> simp at h

/-- The precondition says that every position is finite. -/
theorem finite_of_pre (A0 A2 : FVec Ideal Cert.Pre_finite_positions.S8192x3 .f32)
    (A1 : FVec Ideal Cert.Pre_finite_positions.S8192 .f32)
    (hA : @Cert.Pre_finite_positions.fn finite_facts Ideal _ A0 A1 A2 = fun _ => 1#1)
    (i : Cert.Pre_finite_positions.S8192x3.Idx) : A0 i ≠ (⊤ : EReal) ∧ A0 i ≠ (⊥ : EReal) := by
  refine finite_of_mag_lt (A0 i) ?_
  have h : BitVec.ofBool (decide (max (A0 i : EReal) (-(A0 i : EReal)) < Ideal.ofBits .f32 0x7F800000#32)) = 1#1 :=
    congrFun hA i
  rw [ofBits_inf] at h
  by_contra hn
  rw [decide_eq_false hn] at h
  exact absurd h (by decide)

/-- From finite positions, the kernel's result is the reference's. -/
theorem algebraic : Cert.algebraic_KernelIdeal_ReferenceIdeal_pre_finite_positions
    (hKernelIdeal := Cert.KernelIdeal.Gen.facts) (hReferenceIdeal := Cert.ReferenceIdeal.Gen.facts)
    (hPre_finite_positions := finite_facts) := by
  intro m ρ m' ρ' hpre hagree
  refine ⟨fun c => result m c, ?_, ?_⟩
  · exact (θ_run Cert.KernelIdeal.defs _ _).mono (fun _ h c => ⟨(h c).1.trans (array_eq m c), (h c).2⟩)
      (Cert.KernelIdeal.Value.run_blocks (F := Ideal) m ρ)
  · refine (θ_run Cert.ReferenceIdeal.defs _ _).mono (fun _ h c => ⟨(h c).1.trans ?_, (h c).2⟩)
      (Cert.ReferenceIdeal.Value.run (F := Ideal) m' ρ')
    refine (Ref.res_eq m' c).trans ?_
    funext j
    obtain ⟨e0, e1, e2⟩ := hagree c
    show Ref.loss (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2)) _ = _
    rw [e0, e1, e2]
    exact (Ref.loss_eq _ _ _ (finite_of_pre _ _ _ (hpre c)) _).trans
      (computed_eq_expected (opa m c) (pos m c) (sca m c)).symm

/-- The certificate's claim. -/
theorem claim : Cert.Claim :=
  ⟨Cert.Kernel.Gen.facts, Cert.KernelIdeal.Gen.facts, Cert.ReferenceIdeal.Gen.facts, finite_facts,
    frame_kernel, frame_ideal, fun m ρ _ => frame_ideal m ρ trivial, frame_reference,
    fun m ρ _ => frame_reference m ρ trivial, preserves, algebraic⟩

end Cert.Proof

end
